-- ==== Defs.lean ====
def Pre_Kernel (m : (ℓ : Loc Cert.Kernel.nD Cert.Kernel.τ Cert.Kernel.sig) → Buf (Elt Bits) ℓ) : Prop :=
  True

def Pre_Kernel_pre [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_pre [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel_pre m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_v205) = v2 c
          ∧ r.2.mem ((c.tc : Thread Cert.ReferenceIdeal.nD Cert.ReferenceIdeal.τ).loc Cert.ReferenceIdeal.main_v189) = v3 c
          ∧ r.2.mem ((c.tc : Thread Cert.ReferenceIdeal.nD Cert.ReferenceIdeal.τ).loc Cert.ReferenceIdeal.main_v228) = v4 c
          ∧ r.2.mem ((c.tc : Thread Cert.ReferenceIdeal.nD Cert.ReferenceIdeal.τ).loc Cert.ReferenceIdeal.main_v212) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_Kernel_pre_pre (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S32x13x256x256 : Shape := ⟨4, ![32, 13, 256, 256]⟩
abbrev S32x13x3 : Shape := ⟨3, ![32, 13, 3]⟩
abbrev S32 : Shape := ⟨1, ![32]⟩
abbrev S_ : Shape := ⟨0, ![]⟩
abbrev S32x13x256 : Shape := ⟨3, ![32, 13, 256]⟩
abbrev S32x13x1x256 : Shape := ⟨4, ![32, 13, 1, 256]⟩
abbrev S32x13x2 : Shape := ⟨3, ![32, 13, 2]⟩
abbrev S32x13 : Shape := ⟨2, ![32, 13]⟩
abbrev S32x13x1x1 : Shape := ⟨4, ![32, 13, 1, 1]⟩

class Facts : Prop where
  reducesTo_S32x13x256x256_S32x13x256_d2 : S32x13x256x256.ReducesTo [2] S32x13x256
  h_S_ : 0 < S_.numel
  bcast_S32x13x256_S32x13x1x256_0_1_3 : S32x13x256.BroadcastsInDim S32x13x1x256 (![0, 1, 3] : Fin 3 → Fin S32x13x1x256.rank)
  bcast_S32x13x1x256_S32x13x256x256_0_1_2_3 : S32x13x1x256.BroadcastsInDim S32x13x256x256 (![0, 1, 2, 3] : Fin 4 → Fin S32x13x256x256.rank)
  natLt_1_32 : 1 < 32
  bcast_S_S32x13x1x256 : S_.BroadcastsInDim S32x13x1x256 (![] : Fin 0 → Fin S32x13x1x256.rank)
  slices_S32x13x3_S32x13x2_0_0_0 : S32x13x3.Slices ![0, 0, 0] S32x13x2
  reducesTo_S32x13x2_S32x13_d2 : S32x13x2.ReducesTo [2] S32x13
  bcast_S_S32x13 : S_.BroadcastsInDim S32x13 (![] : Fin 0 → Fin S32x13.rank)
  bcast_S32x13_S32x13x1x1_0_1 : S32x13.BroadcastsInDim S32x13x1x1 (![0, 1] : Fin 2 → Fin S32x13x1x1.rank)
  bcast_S32x13x1x1_S32x13x1x256_0_1_2_3 : S32x13x1x1.BroadcastsInDim S32x13x1x256 (![0, 1, 2, 3] : Fin 4 → Fin S32x13x1x256.rank)

variable [Facts]

def fn_part1 {F : FTy → Type} [FloatOps F] (main_v8 : IVec S32x13x1x256 1) (main_v13 : IVec S32x13x1x256 1) (main_v14 : FVec F S32x13x2 .f32) (main_v15 : FVec F S32x13 .f32) (main_v16 : FVec F S32x13 .f32) : IVec S32x13x1x256 1 :=
  let main_v17 : IVec S32x13 1 := cmpf .oge main_v15 main_v16
  let main_cst_5 : FVec F S_ .f32 := constant S_ .f32 0xFF800000#32
  let main_v18 : FVec F S32x13 .f32 := (fun x v => Host.reduce FloatOps.maximumf x v reducesTo_S32x13x2_S32x13_d2 h_S_) main_v14 main_cst_5
  let main_cst_6 : FVec F S_ .f32 := constant S_ .f32 0x437F0000#32
  let main_v19 : FVec F S32x13 .f32 := broadcastInDim S32x13 ![] bcast_S_S32x13 main_cst_6
  let main_v20 : IVec S32x13 1 := cmpf .olt main_v18 main_v19
  let main_v21 : IVec S32x13 1 := andi main_v17 main_v20
  let main_v22 : IVec S32x13x1x256 1 := andi main_v8 main_v13
  let main_v23 : IVec S32x13x1x1 1 := broadcastInDim S32x13x1x1 ![0, 1] bcast_S32x13_S32x13x1x1_0_1 main_v21
  let main_v24 : IVec S32x13x1x256 1 := broadcastInDim S32x13x1x256 ![0, 1, 2, 3] bcast_S32x13x1x1_S32x13x1x256_0_1_2_3 main_v23
  let main_v25 : IVec S32x13x1x256 1 := andi main_v22 main_v24
  main_v25

def fn {F : FTy → Type} [FloatOps F] (main_arg0 : FVec F S32x13x256x256 .f32) (main_arg1 : FVec F S32x13x3 .f32) (main_arg2 : FVec F S32 .f32) : IVec S32x13x1x256 1 :=
  let main_cst : FVec F S_ .f32 := constant S_ .f32 0xFF800000#32
  let main_v0 : FVec F S32x13x256 .f32 := (fun x v => Host.reduce FloatOps.maximumf x v reducesTo_S32x13x256x256_S32x13x256_d2 h_S_) main_arg0 main_cst
  let main_v1 : FVec F S32x13x1x256 .f32 := broadcastInDim S32x13x1x256 ![0, 1, 3] bcast_S32x13x256_S32x13x1x256_0_1_3 main_v0
  let main_v2 : FVec F S32x13x256x256 .f32 := broadcastInDim S32x13x256x256 ![0, 1, 2, 3] bcast_S32x13x1x256_S32x13x256x256_0_1_2_3 main_v1
  let main_v3 : IVec S32x13x256x256 1 := cmpf .oeq main_arg0 main_v2
  let main_v4 : IVec S32x13x256x256 32 := (extui 32 · natLt_1_32) main_v3
  let main_c : IVec S_ 32 := constantI S_ 32 0#32
  let main_v5 : IVec S32x13x256 32 := (fun x v => Host.reduce IntOp.addi x v reducesTo_S32x13x256x256_S32x13x256_d2 h_S_) main_v4 main_c
  let main_v6 : IVec S32x13x1x256 32 := broadcastInDim S32x13x1x256 ![0, 1, 3] bcast_S32x13x256_S32x13x1x256_0_1_3 main_v5
  let main_c_0 : IVec S_ 32 := constantI S_ 32 1#32
  let main_v7 : IVec S32x13x1x256 32 := broadcastInDim S32x13x1x256 ![] bcast_S_S32x13x1x256 main_c_0
  let main_v8 : IVec S32x13x1x256 1 := cmpi .eq main_v6 main_v7
  let main_v9 : FVec F S32x13x256x256 .f32 := Host.absf main_arg0
  let main_cst_1 : FVec F S_ .f32 := constant S_ .f32 0xFF800000#32
  let main_v10 : FVec F S32x13x256 .f32 := (fun x v => Host.reduce FloatOps.maximumf x v reducesTo_S32x13x256x256_S32x13x256_d2 h_S_) main_v9 main_cst_1
  let main_v11 : FVec F S32x13x1x256 .f32 := broadcastInDim S32x13x1x256 ![0, 1, 3] bcast_S32x13x256_S32x13x1x256_0_1_3 main_v10
  let main_cst_2 : FVec F S_ .f32 := constant S_ .f32 0x7F800000#32
  let main_v12 : FVec F S32x13x1x256 .f32 := broadcastInDim S32x13x1x256 ![] bcast_S_S32x13x1x256 main_cst_2
  let main_v13 : IVec S32x13x1x256 1 := cmpf .olt main_v11 main_v12
  let main_v14 : FVec F S32x13x2 .f32 := (extractStridedSlice S32x13x2 ![0, 0, 0] · slices_S32x13x3_S32x13x2_0_0_0) main_arg1
  let main_cst_3 : FVec F S_ .f32 := constant S_ .f32 0x7F800000#32
  let main_v15 : FVec F S32x13 .f32 := (fun x v => Host.reduce FloatOps.minimumf x v reducesTo_S32x13x2_S32x13_d2 h_S_) main_v14 main_cst_3
  let main_cst_4 : FVec F S_ .f32 := constant S_ .f32 0x00000000#32
  let main_v16 : FVec F S32x13 .f32 := broadcastInDim S32x13 ![] bcast_S_S32x13 main_cst_4
  fn_part1 (F := F) main_v8 main_v13 main_v14 main_v15 main_v16
-- ==== Kernel.lean ====
abbrev S32x13x256x256 : Shape := ⟨4, ![32, 13, 256, 256]⟩
abbrev S32x13x3 : Shape := ⟨3, ![32, 13, 3]⟩
abbrev S32 : Shape := ⟨1, ![32]⟩
abbrev S416x256x256 : Shape := ⟨3, ![416, 256, 256]⟩
abbrev S416x3 : Shape := ⟨2, ![416, 3]⟩
abbrev S416x1x128 : Shape := ⟨3, ![416, 1, 128]⟩
abbrev S1x1x128 : Shape := ⟨3, ![1, 1, 128]⟩
abbrev S26x256x256 : Shape := ⟨3, ![26, 256, 256]⟩
abbrev S52x256x256 : Shape := ⟨3, ![52, 256, 256]⟩
abbrev S52x1x128 : Shape := ⟨3, ![52, 1, 128]⟩
abbrev S4x128 : Shape := ⟨2, ![4, 128]⟩
abbrev S1x256 : Shape := ⟨2, ![1, 256]⟩
abbrev S8x256 : Shape := ⟨2, ![8, 256]⟩
abbrev S1x128 : Shape := ⟨2, ![1, 128]⟩
abbrev S1x1 : Shape := ⟨2, ![1, 1]⟩
abbrev S1 : Shape := ⟨1, ![1]⟩
abbrev S256x256 : Shape := ⟨2, ![256, 256]⟩
abbrev S1x256x256 : Shape := ⟨3, ![1, 256, 256]⟩
abbrev S256x8 : Shape := ⟨2, ![256, 8]⟩
abbrev S8x8 : Shape := ⟨2, ![8, 8]⟩
abbrev S256 : Shape := ⟨1, ![256]⟩
abbrev S416x1x2 : Shape := ⟨3, ![416, 1, 2]⟩
abbrev S416x2 : Shape := ⟨2, ![416, 2]⟩
abbrev S32x13x2 : Shape := ⟨3, ![32, 13, 2]⟩
abbrev S416x1x1 : Shape := ⟨3, ![416, 1, 1]⟩
abbrev S416 : Shape := ⟨1, ![416]⟩
abbrev S32x13 : Shape := ⟨2, ![32, 13]⟩
abbrev S1x1x1 : Shape := ⟨3, ![1, 1, 1]⟩
abbrev S_ : Shape := ⟨0, ![]⟩

abbrev nBuf : Space → Nat
  | .hbm => 21
  | .vmem => 10
  | .smem => 2
  | _ => 0

abbrev bufTy : (tb : Table) → Fin (tcTables nBuf tb) → BufTy
  | .hbm, ⟨0, _⟩ => ⟨S32x13x256x256, .f32⟩
  | .hbm, ⟨1, _⟩ => ⟨S32x13x3, .f32⟩
  | .hbm, ⟨2, _⟩ => ⟨S32, .f32⟩
  | .hbm, ⟨3, _⟩ => ⟨S416x256x256, .f32⟩
  | .hbm, ⟨4, _⟩ => ⟨S416x3, .f32⟩
  | .hbm, ⟨5, _⟩ => ⟨S416x256x256, .f32⟩
  | .hbm, ⟨6, _⟩ => ⟨S416x1x128, .f32⟩
  | .hbm, ⟨7, _⟩ => ⟨S1x1x128, .f32⟩
  | .hbm, ⟨8, _⟩ => ⟨S32x13x256x256, .f32⟩
  | .hbm, ⟨9, _⟩ => ⟨S416x1x2, .f32⟩
  | .hbm, ⟨10, _⟩ => ⟨S416x2, .f32⟩
  | .hbm, ⟨11, _⟩ => ⟨S32x13x2, .f32⟩
  | .hbm, ⟨12, _⟩ => ⟨S416x1x1, .f32⟩
  | .hbm, ⟨13, _⟩ => ⟨S416, .f32⟩
  | .hbm, ⟨14, _⟩ => ⟨S32x13, .f32⟩
  | .hbm, ⟨15, _⟩ => ⟨S1x1x1, .f32⟩
  | .hbm, ⟨16, _⟩ => ⟨S_, .f32⟩
  | .hbm, ⟨17, _⟩ => ⟨S1x1x1, .f32⟩
  | .hbm, ⟨18, _⟩ => ⟨S_, .f32⟩
  | .hbm, ⟨19, _⟩ => ⟨S1x1x1, .f32⟩
  | .hbm, ⟨20, _⟩ => ⟨S_, .f32⟩
  | .local _ .vmem, ⟨0, _⟩ => ⟨S26x256x256, .f32⟩
  | .local _ .vmem, ⟨1, _⟩ => ⟨S26x256x256, .f32⟩
  | .local _ .vmem, ⟨2, _⟩ => ⟨S26x256x256, .f32⟩
  | .local _ .vmem, ⟨3, _⟩ => ⟨S26x256x256, .f32⟩
  | .local _ .vmem, ⟨4, _⟩ => ⟨S52x256x256, .f32⟩
  | .local _ .vmem, ⟨5, _⟩ => ⟨S52x256x256, .f32⟩
  | .local _ .vmem, ⟨6, _⟩ => ⟨S52x1x128, .f32⟩
  | .local _ .vmem, ⟨7, _⟩ => ⟨S52x1x128, .f32⟩
  | .local _ .vmem, ⟨8, _⟩ => ⟨S1x1x128, .f32⟩
  | .local _ .vmem, ⟨9, _⟩ => ⟨S4x128, .f32⟩
  | .local _ .smem, ⟨0, _⟩ => ⟨S416x3, .f32⟩
  | .local _ .smem, ⟨1, _⟩ => ⟨S32, .f32⟩
  | _, _ => ⟨S32x13x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) : Fin 2 → Nat :=
  let arg0 : BitVec 32 := BitVec.ofNat 32 (i 0).val
  let c52_i32 : BitVec 32 := 52#32
  let v0 : BitVec 32 := Scalar.muli arg0 c52_i32
  let v10 : BitVec 32 := Scalar.addi v0 c0_i32_1
  let v11 : Index := Scalar.indexCast v10
  let c0 : Index := 0#32
  ![v11.toNat, 0]
def k0_off2 (i : grid0.Coords) (c0_i32_2 : BitVec 32) : Fin 2 → Nat :=
  let arg0 : BitVec 32 := BitVec.ofNat 32 (i 0).val
  let c52_i32 : BitVec 32 := 52#32
  let v0 : BitVec 32 := Scalar.muli arg0 c52_i32
  let v13 : BitVec 32 := Scalar.addi v0 c0_i32_2
  let v14 : Index := Scalar.indexCast v13
  let c1 : Index := 1#32
  ![v14.toNat, 1]
def k0_off3 (i : grid0.Coords) (c0_i32_3 : BitVec 32) : Fin 2 → Nat :=
  let arg0 : BitVec 32 := BitVec.ofNat 32 (i 0).val
  let c52_i32 : BitVec 32 := 52#32
  let v0 : BitVec 32 := Scalar.muli arg0 c52_i32
  let v16 : BitVec 32 := Scalar.addi v0 c0_i32_3
  let v17 : Index := Scalar.indexCast v16
  let c2 : Index := 2#32
  ![v17.toNat, 2]
def k0_off4 (i : grid0.Coords) (c0_i32_4 : BitVec 32) : Fin 1 → Nat :=
  let arg0 : BitVec 32 := BitVec.ofNat 32 (i 0).val
  let c52_i32 : BitVec 32 := 52#32
  let v0 : BitVec 32 := Scalar.muli arg0 c52_i32
  let v19 : BitVec 32 := Scalar.addi v0 c0_i32_4
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c13_i32 : BitVec 32 := 13#32
  let c0_i32_7 : BitVec 32 := 0#32
  let v26 : BitVec 1 := Scalar.cmpi .sgt c13_i32 c0_i32_7
  let v27 : BitVec 32 := Scalar.extui v26
  let c0_i32_8 : BitVec 32 := 0#32
  let v28 : BitVec 1 := Scalar.cmpi .slt c13_i32 c0_i32_8
  let v29 : BitVec 32 := Scalar.extui v28
  let v30 : BitVec 32 := Scalar.subi v27 v29
  let v31 : BitVec 1 := Scalar.cmpi .ne v25 v30
  let v32 : BitVec 32 := Scalar.remsi v19 c13_i32
  let c0_i32_9 : BitVec 32 := 0#32
  let v33 : BitVec 1 := Scalar.cmpi .ne v32 c0_i32_9
  let v34 : BitVec 1 := Scalar.andi v31 v33
  let v20 : BitVec 32 := Scalar.divsi v19 c13_i32
  let c1_i32 : BitVec 32 := 1#32
  let v35 : BitVec 32 := Scalar.subi v20 c1_i32
  let v36 : BitVec 32 := Scalar.select v34 v35 v20
  let v37 : Index := Scalar.indexCast v36
  ![v37.toNat]
def k0_cond2 (i : grid0.Coords) : BitVec 1 :=
  let arg0 : BitVec 32 := BitVec.ofNat 32 (i 0).val
  let c7_i32_3802 : BitVec 32 := 7#32
  let v11247 : BitVec 1 := Scalar.cmpi .eq arg0 c7_i32_3802
  let v11248 : BitVec 32 := Scalar.extui v11247
  let c0_i32_3803 : BitVec 32 := 0#32
  let v11249 : BitVec 1 := Scalar.cmpi .ne v11248 c0_i32_3803
  v11249

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S416x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S26x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S26x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S52x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S52x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32x13x256x256 : Shape := ⟨4, ![32, 13, 256, 256]⟩
abbrev S32x13x3 : Shape := ⟨3, ![32, 13, 3]⟩
abbrev S32 : Shape := ⟨1, ![32]⟩
abbrev S32x13x2 : Shape := ⟨3, ![32, 13, 2]⟩
abbrev S32x13x1 : Shape := ⟨3, ![32, 13, 1]⟩
abbrev S32x13 : Shape := ⟨2, ![32, 13]⟩
abbrev S32x1 : Shape := ⟨2, ![32, 1]⟩
abbrev S_ : Shape := ⟨0, ![]⟩
abbrev S13 : Shape := ⟨1, ![13]⟩
abbrev S1x13 : Shape := ⟨2, ![1, 13]⟩
abbrev S27262976 : Shape := ⟨1, ![27262976]⟩
abbrev S416 : Shape := ⟨1, ![416]⟩
abbrev S416x1 : Shape := ⟨2, ![416, 1]⟩
abbrev S32x13x65536 : Shape := ⟨3, ![32, 13, 65536]⟩
abbrev S256x256x256x256 : Shape := ⟨4, ![256, 256, 256, 256]⟩
abbrev S65536x256x256 : Shape := ⟨3, ![65536, 256, 256]⟩

abbrev nBuf : Space → Nat
  | .hbm => 338
  | .vmem => 0
  | .smem => 0
  | _ => 0

abbrev hbmTy0_0 (i : Nat) : BufTy := match i % 128 with
  | 0 => ⟨S32x13x256x256, .f32⟩
  | 1 => ⟨S32x13x3, .f32⟩
  | 2 => ⟨S32, .f32⟩
  | 3 => ⟨S32x13x2, .f32⟩
  | 4 => ⟨S32x13x2, .i32⟩
  | 5 => ⟨S32x13x2, .f32⟩
  | 6 => ⟨S32x13x2, .f32⟩
  | 7 => ⟨S32x13x1, .i32⟩
  | 8 => ⟨S32x13, .i32⟩
  | 9 => ⟨S32x13x1, .i32⟩
  | 10 => ⟨S32x13, .i32⟩
  | 11 => ⟨S32x13x1, .f32⟩
  | 12 => ⟨S32x13, .f32⟩
  | 13 => ⟨S32x13x1, .f32⟩
  | 14 => ⟨S32x13, .f32⟩
  | 15 => ⟨S32, .i32⟩
  | 16 => ⟨S32x1, .i32⟩
  | 17 => ⟨S_, .i32⟩
  | 18 => ⟨S32x1, .i32⟩
  | 19 => ⟨S32x1, .i32⟩
  | 20 => ⟨S13, .i32⟩
  | 21 => ⟨S1x13, .i32⟩
  | 22 => ⟨S_, .i32⟩
  | 23 => ⟨S1x13, .i32⟩
  | 24 => ⟨S1x13, .i32⟩
  | 25 => ⟨S_, .i32⟩
  | 26 => ⟨S32x13, .i32⟩
  | 27 => ⟨S32x13, .i32⟩
  | 28 => ⟨S32x13, .i32⟩
  | 29 => ⟨S32x13, .i32⟩
  | 30 => ⟨S32x13, .i32⟩
  | 31 => ⟨S32x13, .i32⟩
  | 32 => ⟨S32x13, .i32⟩
  | 33 => ⟨S_, .i32⟩
  | 34 => ⟨S32x13, .i32⟩
  | 35 => ⟨S32x13, .i1⟩
  | 36 => ⟨S_, .i32⟩
  | 37 => ⟨S32x13, .i32⟩
  | 38 => ⟨S32x13, .i1⟩
  | 39 => ⟨S32x13, .i1⟩
  | 40 => ⟨S_, .i32⟩
  | 41 => ⟨S32x13, .i32⟩
  | 42 => ⟨S32x13, .i1⟩
  | 43 => ⟨S32x13, .i1⟩
  | 44 => ⟨S_, .i32⟩
  | 45 => ⟨S32x13, .i32⟩
  | 46 => ⟨S32x13, .i1⟩
  | 47 => ⟨S32x13, .i1⟩
  | 48 => ⟨S_, .i32⟩
  | 49 => ⟨S32x13, .i32⟩
  | 50 => ⟨S32x13, .i1⟩
  | 51 => ⟨S_, .i32⟩
  | 52 => ⟨S32x13, .i32⟩
  | 53 => ⟨S32x13, .i32⟩
  | 54 => ⟨S_, .i32⟩
  | 55 => ⟨S32x13, .i32⟩
  | 56 => ⟨S32x13, .i1⟩
  | 57 => ⟨S32x13, .i1⟩
  | 58 => ⟨S_, .i32⟩
  | 59 => ⟨S32x13, .i32⟩
  | 60 => ⟨S32x13, .i1⟩
  | 61 => ⟨S32x13, .i1⟩
  | 62 => ⟨S_, .i32⟩
  | 63 => ⟨S32x13, .i32⟩
  | 64 => ⟨S32x13, .i32⟩
  | 65 => ⟨S_, .i32⟩
  | 66 => ⟨S32x13, .i32⟩
  | 67 => ⟨S32x13, .i1⟩
  | 68 => ⟨S32x13, .i1⟩
  | 69 => ⟨S_, .i32⟩
  | 70 => ⟨S32x13, .i32⟩
  | 71 => ⟨S32x13, .i32⟩
  | 72 => ⟨S_, .i32⟩
  | 73 => ⟨S32x13, .i32⟩
  | 74 => ⟨S32x13, .i1⟩
  | 75 => ⟨S_, .i32⟩
  | 76 => ⟨S32x13, .i32⟩
  | 77 => ⟨S32x13, .i1⟩
  | 78 => ⟨S32x13, .i1⟩
  | 79 => ⟨S_, .i32⟩
  | 80 => ⟨S32x13, .i32⟩
  | 81 => ⟨S32x13, .i32⟩
  | 82 => ⟨S_, .i32⟩
  | 83 => ⟨S32x13, .i32⟩
  | 84 => ⟨S32x13, .i1⟩
  | 85 => ⟨S32x13, .i1⟩
  | 86 => ⟨S_, .i32⟩
  | 87 => ⟨S32x13, .i32⟩
  | 88 => ⟨S32x13, .i1⟩
  | 89 => ⟨S32x13, .i1⟩
  | 90 => ⟨S_, .i32⟩
  | 91 => ⟨S32x13, .i32⟩
  | 92 => ⟨S32x13, .i32⟩
  | 93 => ⟨S_, .i32⟩
  | 94 => ⟨S32x13, .i32⟩
  | 95 => ⟨S32x13, .i1⟩
  | 96 => ⟨S_, .i32⟩
  | 97 => ⟨S32x13, .i32⟩
  | 98 => ⟨S32x13, .i32⟩
  | 99 => ⟨S_, .i32⟩
  | 100 => ⟨S32x13, .i32⟩
  | 101 => ⟨S32x13, .i1⟩
  | 102 => ⟨S32x13, .i1⟩
  | 103 => ⟨S_, .i32⟩
  | 104 => ⟨S32x13, .i32⟩
  | 105 => ⟨S32x13, .i32⟩
  | 106 => ⟨S_, .i32⟩
  | 107 => ⟨S32x13, .i32⟩
  | 108 => ⟨S32x13, .i1⟩
  | 109 => ⟨S32x13, .i1⟩
  | 110 => ⟨S_, .i32⟩
  | 111 => ⟨S32x13, .i32⟩
  | 112 => ⟨S32x13, .i32⟩
  | 113 => ⟨S_, .i32⟩
  | 114 => ⟨S32x13, .i32⟩
  | 115 => ⟨S32x13, .i1⟩
  | 116 => ⟨S32x13, .i1⟩
  | 117 => ⟨S_, .f32⟩
  | 118 => ⟨S27262976, .f32⟩
  | 119 => ⟨S_, .f32⟩
  | 120 => ⟨S32x13, .f32⟩
  | 121 => ⟨S32x13, .f32⟩
  | 122 => ⟨S_, .f32⟩
  | 123 => ⟨S32x13, .f32⟩
  | 124 => ⟨S32x13, .f32⟩
  | 125 => ⟨S32x13, .f32⟩
  | 126 => ⟨S32x13, .f32⟩
  | 127 => ⟨S_, .i32⟩
  | _ => ⟨S32x13x256x256, .f32⟩

abbrev hbmTy0_1 (i : Nat) : BufTy := match i % 128 with
  | 0 => ⟨S_, .i32⟩
  | 1 => ⟨S32x13, .i32⟩
  | 2 => ⟨S32x13, .i32⟩
  | 3 => ⟨S416, .i32⟩
  | 4 => ⟨S32x13, .f32⟩
  | 5 => ⟨S416, .f32⟩
  | 6 => ⟨S_, .i32⟩
  | 7 => ⟨S416, .i32⟩
  | 8 => ⟨S416, .i1⟩
  | 9 => ⟨S_, .i32⟩
  | 10 => ⟨S416, .i32⟩
  | 11 => ⟨S416, .i32⟩
  | 12 => ⟨S416, .i32⟩
  | 13 => ⟨S416x1, .i32⟩
  | 14 => ⟨S27262976, .f32⟩
  | 15 => ⟨S_, .i32⟩
  | 16 => ⟨S32x13, .i32⟩
  | 17 => ⟨S32x13, .i32⟩
  | 18 => ⟨S_, .f32⟩
  | 19 => ⟨S32x13, .f32⟩
  | 20 => ⟨S32x13, .f32⟩
  | 21 => ⟨S32x13, .f32⟩
  | 22 => ⟨S32x13, .f32⟩
  | 23 => ⟨S_, .i32⟩
  | 24 => ⟨S_, .i32⟩
  | 25 => ⟨S32x13, .i32⟩
  | 26 => ⟨S32x13, .i32⟩
  | 27 => ⟨S416, .i32⟩
  | 28 => ⟨S32x13, .f32⟩
  | 29 => ⟨S416, .f32⟩
  | 30 => ⟨S_, .i32⟩
  | 31 => ⟨S416, .i32⟩
  | 32 => ⟨S416, .i1⟩
  | 33 => ⟨S_, .i32⟩
  | 34 => ⟨S416, .i32⟩
  | 35 => ⟨S416, .i32⟩
  | 36 => ⟨S416, .i32⟩
  | 37 => ⟨S416x1, .i32⟩
  | 38 => ⟨S27262976, .f32⟩
  | 39 => ⟨S_, .i32⟩
  | 40 => ⟨S32x13, .i32⟩
  | 41 => ⟨S32x13, .i32⟩
  | 42 => ⟨S_, .f32⟩
  | 43 => ⟨S32x13, .f32⟩
  | 44 => ⟨S32x13, .f32⟩
  | 45 => ⟨S32x13, .f32⟩
  | 46 => ⟨S32x13, .f32⟩
  | 47 => ⟨S_, .i32⟩
  | 48 => ⟨S_, .i32⟩
  | 49 => ⟨S32x13, .i32⟩
  | 50 => ⟨S32x13, .i32⟩
  | 51 => ⟨S416, .i32⟩
  | 52 => ⟨S32x13, .f32⟩
  | 53 => ⟨S416, .f32⟩
  | 54 => ⟨S_, .i32⟩
  | 55 => ⟨S416, .i32⟩
  | 56 => ⟨S416, .i1⟩
  | 57 => ⟨S_, .i32⟩
  | 58 => ⟨S416, .i32⟩
  | 59 => ⟨S416, .i32⟩
  | 60 => ⟨S416, .i32⟩
  | 61 => ⟨S416x1, .i32⟩
  | 62 => ⟨S27262976, .f32⟩
  | 63 => ⟨S_, .i32⟩
  | 64 => ⟨S32x13, .i32⟩
  | 65 => ⟨S32x13, .i32⟩
  | 66 => ⟨S_, .i32⟩
  | 67 => ⟨S32x13, .i32⟩
  | 68 => ⟨S32x13, .i32⟩
  | 69 => ⟨S32x13, .f32⟩
  | 70 => ⟨S32x13, .f32⟩
  | 71 => ⟨S_, .i32⟩
  | 72 => ⟨S_, .i32⟩
  | 73 => ⟨S32x13, .i32⟩
  | 74 => ⟨S32x13, .i32⟩
  | 75 => ⟨S416, .i32⟩
  | 76 => ⟨S32x13, .f32⟩
  | 77 => ⟨S416, .f32⟩
  | 78 => ⟨S_, .i32⟩
  | 79 => ⟨S416, .i32⟩
  | 80 => ⟨S416, .i1⟩
  | 81 => ⟨S_, .i32⟩
  | 82 => ⟨S416, .i32⟩
  | 83 => ⟨S416, .i32⟩
  | 84 => ⟨S416, .i32⟩
  | 85 => ⟨S416x1, .i32⟩
  | 86 => ⟨S27262976, .f32⟩
  | 87 => ⟨S32x13x65536, .f32⟩
  | 88 => ⟨S256x256x256x256, .i32⟩
  | 89 => ⟨S256x256x256x256, .i32⟩
  | 90 => ⟨S256x256x256x256, .i32⟩
  | 91 => ⟨S256x256x256x256, .i32⟩
  | 92 => ⟨S256x256x256x256, .i32⟩
  | 93 => ⟨S256x256x256x256, .i32⟩
  | 94 => ⟨S_, .i32⟩
  | 95 => ⟨S256x256x256x256, .i32⟩
  | 96 => ⟨S256x256x256x256, .i1⟩
  | 97 => ⟨S_, .i32⟩
  | 98 => ⟨S256x256x256x256, .i32⟩
  | 99 => ⟨S256x256x256x256, .i1⟩
  | 100 => ⟨S256x256x256x256, .i1⟩
  | 101 => ⟨S_, .i32⟩
  | 102 => ⟨S256x256x256x256, .i32⟩
  | 103 => ⟨S256x256x256x256, .i1⟩
  | 104 => ⟨S256x256x256x256, .i1⟩
  | 105 => ⟨S_, .i32⟩
  | 106 => ⟨S256x256x256x256, .i32⟩
  | 107 => ⟨S256x256x256x256, .i1⟩
  | 108 => ⟨S256x256x256x256, .i1⟩
  | 109 => ⟨S256x256x256x256, .f32⟩
  | 110 => ⟨S256x256x256x256, .f32⟩
  | 111 => ⟨S256x256x256x256, .f32⟩
  | 112 => ⟨S256x256x256x256, .f32⟩
  | 113 => ⟨S256x256x256x256, .f32⟩
  | 114 => ⟨S256x256x256x256, .f32⟩
  | 115 => ⟨S_, .f32⟩
  | 116 => ⟨S256x256x256x256, .f32⟩
  | 117 => ⟨S256x256x256x256, .f32⟩
  | 118 => ⟨S256x256x256x256, .f32⟩
  | 119 => ⟨S_, .f32⟩
  | 120 => ⟨S256x256x256x256, .f32⟩
  | 121 => ⟨S256x256x256x256, .f32⟩
  | 122 => ⟨S_, .f32⟩
  | 123 => ⟨S256x256x256x256, .f32⟩
  | 124 => ⟨S256x256x256x256, .f32⟩
  | 125 => ⟨S_, .f32⟩
  | 126 => ⟨S_, .f32⟩
  | 127 => ⟨S256x256x256x256, .f32⟩
  | _ => ⟨S32x13x256x256, .f32⟩

abbrev hbmTy0_2 (i : Nat) : BufTy := match i % 128 with
  | 0 => ⟨S256x256x256x256, .f32⟩
  | 1 => ⟨S65536x256x256, .f32⟩
  | 2 => ⟨S32x13x256x256, .f32⟩
  | 3 => ⟨S32x13x65536, .f32⟩
  | 4 => ⟨S32x13x65536, .i32⟩
  | 5 => ⟨S_, .f32⟩
  | 6 => ⟨S32x13, .f32⟩
  | 7 => ⟨S32x13x1, .f32⟩
  | 8 => ⟨S32x13x65536, .f32⟩
  | 9 => ⟨S32x13x65536, .i1⟩
  | 10 => ⟨S_, .i32⟩
  | 11 => ⟨S_, .i32⟩
  | 12 => ⟨S32x13x65536, .i32⟩
  | 13 => ⟨S32x13x65536, .i32⟩
  | 14 => ⟨S_, .i32⟩
  | 15 => ⟨S32x13, .i32⟩
  | 16 => ⟨S32x13, .f32⟩
  | 17 => ⟨S_, .i32⟩
  | 18 => ⟨S_, .f32⟩
  | 19 => ⟨S32x13, .f32⟩
  | 20 => ⟨S32x13, .f32⟩
  | 21 => ⟨S_, .f32⟩
  | 22 => ⟨S32x13, .f32⟩
  | 23 => ⟨S32x13, .i1⟩
  | 24 => ⟨S_, .f32⟩
  | 25 => ⟨S32x13, .f32⟩
  | 26 => ⟨S32x13, .i1⟩
  | 27 => ⟨S_, .f32⟩
  | 28 => ⟨S_, .i1⟩
  | 29 => ⟨S32x13, .i1⟩
  | 30 => ⟨S32x13, .i1⟩
  | 31 => ⟨S32x13, .i1⟩
  | 32 => ⟨S32x13, .f32⟩
  | 33 => ⟨S32x13, .f32⟩
  | 34 => ⟨S32x13, .f32⟩
  | 35 => ⟨S_, .f32⟩
  | 36 => ⟨S32x13, .f32⟩
  | 37 => ⟨S32x13, .f32⟩
  | 38 => ⟨S32x13, .f32⟩
  | 39 => ⟨S32x13x1, .f32⟩
  | 40 => ⟨S32x13x1, .f32⟩
  | 41 => ⟨S32x13x2, .f32⟩
  | 42 => ⟨S32x13x1, .f32⟩
  | 43 => ⟨S32x13, .f32⟩
  | 44 => ⟨S32x13x2, .f32⟩
  | 45 => ⟨S32x13x2, .f32⟩
  | 46 => ⟨S32x13x2, .f32⟩
  | 47 => ⟨S_, .f32⟩
  | 48 => ⟨S32x13, .f32⟩
  | 49 => ⟨S32x13, .f32⟩
  | 50 => ⟨S32x13, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S32, .f32⟩
  | 60 => ⟨S32, .f32⟩
  | 61 => ⟨S32x1, .f32⟩
  | 62 => ⟨S32x13, .f32⟩
  | 63 => ⟨S32x13, .i1⟩
  | 64 => ⟨S32x13, .f32⟩
  | 65 => ⟨S32x13, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S32x13x256x256, .f32⟩
  | 74 => ⟨S32x13x256x256, .f32⟩
  | 75 => ⟨S32x13x65536, .f32⟩
  | 76 => ⟨S_, .f32⟩
  | 77 => ⟨S32x13, .f32⟩
  | 78 => ⟨S_, .f32⟩
  | 79 => ⟨S_, .f32⟩
  | 80 => ⟨S_, .f32⟩
  | 81 => ⟨S_, .f32⟩
  | _ => ⟨S32x13x256x256, .f32⟩

abbrev hbmTy (i : Nat) : BufTy := match i / 128 with
  | 0 => hbmTy0_0 i
  | 1 => hbmTy0_1 i
  | 2 => hbmTy0_2 i
  | _ => ⟨S32x13x256x256, .f32⟩

abbrev bufTy : (tb : Table) → Fin (tcTables nBuf tb) → BufTy
  | .hbm, ⟨i, _⟩ => hbmTy i
  | _, _ => ⟨S32x13x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_6 : Ref sig .tc := ⟨.hbm, 48, rfl⟩
abbrev main_v38 : Ref sig .tc := ⟨.hbm, 49, rfl⟩
abbrev main_v39 : Ref sig .tc := ⟨.hbm, 50, rfl⟩
abbrev main_c_7 : Ref sig .tc := ⟨.hbm, 51, rfl⟩
abbrev main_v40 : Ref sig .tc := ⟨.hbm, 52, rfl⟩
abbrev main_v41 : Ref sig .tc := ⟨.hbm, 53, rfl⟩
abbrev main_c_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_10 : Ref sig .tc := ⟨.hbm, 62, rfl⟩
abbrev main_v48 : Ref sig .tc := ⟨.hbm, 63, rfl⟩
abbrev main_v49 : Ref sig .tc := ⟨.hbm, 64, rfl⟩
abbrev main_c_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_12 : Ref sig .tc := ⟨.hbm, 69, rfl⟩
abbrev main_v53 : Ref sig .tc := ⟨.hbm, 70, rfl⟩
abbrev main_v54 : Ref sig .tc := ⟨.hbm, 71, rfl⟩
abbrev main_c_13 : Ref sig .tc := ⟨.hbm, 72, rfl⟩
abbrev main_v55 : Ref sig .tc := ⟨.hbm, 73, rfl⟩
abbrev main_v56 : Ref sig .tc := ⟨.hbm, 74, rfl⟩
abbrev main_c_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_15 : Ref sig .tc := ⟨.hbm, 79, rfl⟩
abbrev main_v60 : Ref sig .tc := ⟨.hbm, 80, rfl⟩
abbrev main_v61 : Ref sig .tc := ⟨.hbm, 81, rfl⟩
abbrev main_c_16 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_17 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_18 : Ref sig .tc := ⟨.hbm, 90, rfl⟩
abbrev main_v68 : Ref sig .tc := ⟨.hbm, 91, rfl⟩
abbrev main_v69 : Ref sig .tc := ⟨.hbm, 92, rfl⟩
abbrev main_c_19 : Ref sig .tc := ⟨.hbm, 93, rfl⟩
abbrev main_v70 : Ref sig .tc := ⟨.hbm, 94, rfl⟩
abbrev main_v71 : Ref sig .tc := ⟨.hbm, 95, rfl⟩
abbrev main_c_20 : Ref sig .tc := ⟨.hbm, 96, rfl⟩
abbrev main_v72 : Ref sig .tc := ⟨.hbm, 97, rfl⟩
abbrev main_v73 : Ref sig .tc := ⟨.hbm, 98, rfl⟩
abbrev main_c_21 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_22 : Ref sig .tc := ⟨.hbm, 103, rfl⟩
abbrev main_v77 : Ref sig .tc := ⟨.hbm, 104, rfl⟩
abbrev main_v78 : Ref sig .tc := ⟨.hbm, 105, rfl⟩
abbrev main_c_23 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_24 : Ref sig .tc := ⟨.hbm, 110, rfl⟩
abbrev main_v82 : Ref sig .tc := ⟨.hbm, 111, rfl⟩
abbrev main_v83 : Ref sig .tc := ⟨.hbm, 112, rfl⟩
abbrev main_c_25 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst : Ref sig .tc := ⟨.hbm, 117, rfl⟩
abbrev main_v87 : Ref sig .tc := ⟨.hbm, 118, rfl⟩
abbrev main_cst_26 : Ref sig .tc := ⟨.hbm, 119, rfl⟩
abbrev main_v88 : Ref sig .tc := ⟨.hbm, 120, rfl⟩
abbrev main_v89 : Ref sig .tc := ⟨.hbm, 121, rfl⟩
abbrev main_cst_27 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_28 : Ref sig .tc := ⟨.hbm, 127, rfl⟩
abbrev main_call0_v0 : Ref sig .tc := ⟨.hbm, 128, rfl⟩
abbrev main_call0_v1 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_29 : Ref sig .tc := ⟨.hbm, 134, rfl⟩
abbrev main_v98 : Ref sig .tc := ⟨.hbm, 135, rfl⟩
abbrev main_v99 : Ref sig .tc := ⟨.hbm, 136, rfl⟩
abbrev main_c_30 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_31 : Ref sig .tc := ⟨.hbm, 143, rfl⟩
abbrev main_v105 : Ref sig .tc := ⟨.hbm, 144, rfl⟩
abbrev main_v106 : Ref sig .tc := ⟨.hbm, 145, rfl⟩
abbrev main_cst_32 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_33 : Ref sig .tc := ⟨.hbm, 151, rfl⟩
abbrev main_call1_v0 : Ref sig .tc := ⟨.hbm, 152, rfl⟩
abbrev main_call1_v1 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_34 : Ref sig .tc := ⟨.hbm, 158, rfl⟩
abbrev main_v115 : Ref sig .tc := ⟨.hbm, 159, rfl⟩
abbrev main_v116 : Ref sig .tc := ⟨.hbm, 160, rfl⟩
abbrev main_c_35 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_36 : Ref sig .tc := ⟨.hbm, 167, rfl⟩
abbrev main_v122 : Ref sig .tc := ⟨.hbm, 168, rfl⟩
abbrev main_v123 : Ref sig .tc := ⟨.hbm, 169, rfl⟩
abbrev main_cst_37 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_38 : Ref sig .tc := ⟨.hbm, 175, rfl⟩
abbrev main_call2_v0 : Ref sig .tc := ⟨.hbm, 176, rfl⟩
abbrev main_call2_v1 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_39 : Ref sig .tc := ⟨.hbm, 182, rfl⟩
abbrev main_v132 : Ref sig .tc := ⟨.hbm, 183, rfl⟩
abbrev main_v133 : Ref sig .tc := ⟨.hbm, 184, rfl⟩
abbrev main_c_40 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_41 : Ref sig .tc := ⟨.hbm, 191, rfl⟩
abbrev main_v139 : Ref sig .tc := ⟨.hbm, 192, rfl⟩
abbrev main_v140 : Ref sig .tc := ⟨.hbm, 193, rfl⟩
abbrev main_c_42 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_c_43 : Ref sig .tc := ⟨.hbm, 199, rfl⟩
abbrev main_call3_v0 : Ref sig .tc := ⟨.hbm, 200, rfl⟩
abbrev main_call3_v1 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_c_44 : Ref sig .tc := ⟨.hbm, 206, rfl⟩
abbrev main_v149 : Ref sig .tc := ⟨.hbm, 207, rfl⟩
abbrev main_v150 : Ref sig .tc := ⟨.hbm, 208, rfl⟩
abbrev main_c_45 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_c_46 : Ref sig .tc := ⟨.hbm, 222, rfl⟩
abbrev main_v163 : Ref sig .tc := ⟨.hbm, 223, rfl⟩
abbrev main_v164 : Ref sig .tc := ⟨.hbm, 224, rfl⟩
abbrev main_c_47 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_c_48 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_c_49 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_50 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_51 : Ref sig .tc := ⟨.hbm, 247, rfl⟩
abbrev main_v183 : Ref sig .tc := ⟨.hbm, 248, rfl⟩
abbrev main_v184 : Ref sig .tc := ⟨.hbm, 249, rfl⟩
abbrev main_cst_52 : Ref sig .tc := ⟨.hbm, 250, rfl⟩
abbrev main_v185 : Ref sig .tc := ⟨.hbm, 251, rfl⟩
abbrev main_v186 : Ref sig .tc := ⟨.hbm, 252, rfl⟩
abbrev main_cst_53 : Ref sig .tc := ⟨.hbm, 253, rfl⟩
abbrev main_call4_v0 : Ref sig .tc := ⟨.hbm, 254, rfl⟩
abbrev main_call4_v1 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_54 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_c_55 : Ref sig .tc := ⟨.hbm, 266, rfl⟩
abbrev main_call5_v0 : Ref sig .tc := ⟨.hbm, 267, rfl⟩
abbrev main_call5_v1 : Ref sig .tc := ⟨.hbm, 268, rfl⟩
abbrev main_v196 : Ref sig .tc := ⟨.hbm, 269, rfl⟩
abbrev main_c_56 : Ref sig .tc := ⟨.hbm, 270, rfl⟩
abbrev main_v197 : Ref sig .tc := ⟨.hbm, 271, rfl⟩
abbrev main_v198 : Ref sig .tc := ⟨.hbm, 272, rfl⟩
abbrev main_c_57 : Ref sig .tc := ⟨.hbm, 273, rfl⟩
abbrev main_call6_v0 : Ref sig .tc := ⟨.hbm, 274, rfl⟩
abbrev main_call6_v1 : Ref sig .tc := ⟨.hbm, 275, rfl⟩
abbrev main_call6_v2 : Ref sig .tc := ⟨.hbm, 276, rfl⟩
abbrev main_call6_cst : Ref sig .tc := ⟨.hbm, 277, rfl⟩
abbrev main_call6_v3 : Ref sig .tc := ⟨.hbm, 278, rfl⟩
abbrev main_call6_v4 : Ref sig .tc := ⟨.hbm, 279, rfl⟩
abbrev main_call6_cst_0 : Ref sig .tc := ⟨.hbm, 280, rfl⟩
abbrev main_call6_v5 : Ref sig .tc := ⟨.hbm, 281, rfl⟩
abbrev main_call6_v6 : Ref sig .tc := ⟨.hbm, 282, rfl⟩
abbrev main_call6_cst_1 : Ref sig .tc := ⟨.hbm, 283, rfl⟩
abbrev main_call6_v7 : Ref sig .tc := ⟨.hbm, 284, rfl⟩
abbrev main_call6_v8 : Ref sig .tc := ⟨.hbm, 285, rfl⟩
abbrev main_call6_v9 : Ref sig .tc := ⟨.hbm, 286, rfl⟩
abbrev main_call6_v10 : Ref sig .tc := ⟨.hbm, 287, rfl⟩
abbrev main_call6_v11 : Ref sig .tc := ⟨.hbm, 288, rfl⟩
abbrev main_call6_v12 : Ref sig .tc := ⟨.hbm, 289, rfl⟩
abbrev main_v199 : Ref sig .tc := ⟨.hbm, 290, rfl⟩
abbrev main_cst_58 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_cst_59 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_cst_60 : Ref sig .tc := ⟨.hbm, 307, rfl⟩
abbrev main_v214 : Ref sig .tc := ⟨.hbm, 308, rfl⟩
abbrev main_cst_61 : Ref sig .tc := ⟨.hbm, 309, rfl⟩
abbrev main_v215 : Ref sig .tc := ⟨.hbm, 310, rfl⟩
abbrev main_cst_62 : Ref sig .tc := ⟨.hbm, 311, rfl⟩
abbrev main_v216 : Ref sig .tc := ⟨.hbm, 312, rfl⟩
abbrev main_v217 : Ref sig .tc := ⟨.hbm, 313, rfl⟩
abbrev main_cst_63 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_cst_64 : Ref sig .tc := ⟨.hbm, 322, rfl⟩
abbrev main_v225 : Ref sig .tc := ⟨.hbm, 323, rfl⟩
abbrev main_cst_65 : Ref sig .tc := ⟨.hbm, 324, rfl⟩
abbrev main_v226 : Ref sig .tc := ⟨.hbm, 325, rfl⟩
abbrev main_cst_66 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_cst_67 : Ref sig .tc := ⟨.hbm, 332, rfl⟩
abbrev main_v232 : Ref sig .tc := ⟨.hbm, 333, rfl⟩
abbrev main_cst_68 : Ref sig .tc := ⟨.hbm, 334, rfl⟩
abbrev main_v233 : Ref sig .tc := ⟨.hbm, 335, rfl⟩
abbrev main_cst_69 : Ref sig .tc := ⟨.hbm, 336, rfl⟩
abbrev main_v234 : Ref sig .tc := ⟨.hbm, 337, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_pre

/-! # The frames: each program ends with its arguments unchanged and no counter left

The two kernels' are the generated launches; the reference's is its run read at the three arguments. -/

@[expose] public section

namespace Cert.Proof

open Idealize.ShloMosaic Idealize.SL.Sem

theorem frame_kernel : Cert.quiescent_Kernel := fun m ρ _ => Cert.Kernel.Gen.frame m ρ

theorem frame_kernel_pre : Cert.quiescent_Kernel_pre_pre := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := by
  intro m ρ _
  exact (θ_run Cert.ReferenceIdeal.defs _ _).mono
    (fun r h => ⟨fun c => (h c).2.2.2.2.2.2, sem_eq_zero_of_no_sems (by decide) r.2⟩)
    (Cert.ReferenceIdeal.Value.run (F := Ideal) m ρ)

theorem frame_referenceIdeal_pre : Cert.quiescent_ReferenceIdeal_pre_pre := fun m ρ _ => frame_referenceIdeal m ρ trivial

end Cert.Proof
-- ==== Proof.Gauss.lean ====
module

public import Idealize.ShloMosaic.Lib.Pointwise
public import Idealize.ShloMosaic.PureOps.Ideal.Laws
public import Mathlib.Analysis.SpecialFunctions.Exp
public import Mathlib.Tactic.Ring
public import Mathlib.Tactic.Linarith

/-! # The literals as real numbers, and the Gaussian over the reals -/

@[expose] public section

noncomputable section

namespace Cert.Gauss

open Idealize.ShloMosaic

/-! ## Literals -/

theorem lit_neg15 : Ideal.ofBits .f32 0xC1700000#32 = ((-15 : ℝ) : EReal) := by
  simp [Ideal.ofBits, Ideal.ieee, -EReal.coe_mul, -EReal.coe_neg]; norm_num

theorem lit_15 : Ideal.ofBits .f32 0x41700000#32 = ((15 : ℝ) : EReal) := by
  simp [Ideal.ofBits, Ideal.ieee, -EReal.coe_mul, -EReal.coe_neg]; norm_num

theorem lit_neg8th : Ideal.ofBits .f32 0xBE000000#32 = ((-(1 / 8) : ℝ) : EReal) := by
  simp [Ideal.ofBits, Ideal.ieee, -EReal.coe_mul, -EReal.coe_neg]; norm_num

theorem lit_2 : Ideal.ofBits .f32 0x40000000#32 = ((2 : ℝ) : EReal) := by
  simp [Ideal.ofBits, Ideal.ieee, -EReal.coe_mul, -EReal.coe_neg]; norm_num

theorem lit_8 : Ideal.ofBits .f32 0x41000000#32 = ((8 : ℝ) : EReal) := by
  simp [Ideal.ofBits, Ideal.ieee, -EReal.coe_mul, -EReal.coe_neg]; norm_num

theorem lit_256 : Ideal.ofBits .f32 0x43800000#32 = ((256 : ℝ) : EReal) := by
  simp [Ideal.ofBits, Ideal.ieee, -EReal.coe_mul, -EReal.coe_neg]; norm_num

theorem lit_256th : Ideal.ofBits .f32 0x3B800000#32 = ((1 / 256 : ℝ) : EReal) := by
  simp [Ideal.ofBits, Ideal.ieee, -EReal.coe_mul, -EReal.coe_neg]; norm_num

theorem lit_1e9 : Ideal.ofBits .f32 0x4E6E6B28#32 = ((1000000000 : ℝ) : EReal) := by
  simp [Ideal.ofBits, Ideal.ieee, -EReal.coe_mul, -EReal.coe_neg]; norm_num

theorem lit_0 : Ideal.ofBits .f32 0x00000000#32 = 0 := by
  simp [Ideal.ofBits, Ideal.ieee]

theorem lit_1 : Ideal.ofBits .f32 0x3F800000#32 = 1 := by
  simp [Ideal.ofBits, Ideal.ieee, -EReal.coe_mul, -EReal.coe_neg]; norm_num

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

/-- The reciprocal of the Gaussian's sum along one axis, as both programs round it. -/
def nrm : ℝ := 13386282 / 2 ^ 26

theorem lit_nrm : Ideal.ofBits .f32 0x3E4C422A#32 = ((nrm : ℝ) : EReal) := by
  unfold nrm
  simp [Ideal.ofBits, Ideal.ieee, -EReal.coe_mul, -EReal.coe_neg]; norm_num

/-! ## Small numbers as words -/

theorem toInt_ofNat (n : ℕ) (h : n < 2 ^ 31) : (BitVec.ofNat 32 n).toInt = (n : ℤ) := by
  have hn : (BitVec.ofNat 32 n).toNat = n := by rw [BitVec.toNat_ofNat]; omega
  rw [BitVec.toInt_eq_toNat_of_lt (by rw [hn]; omega), hn]

theorem sitofp_ofNat (n : ℕ) (h : n < 2 ^ 31) :
    (FloatOps.sitofp .f32 (BitVec.ofNat 32 n) : Ideal .f32) = (((n : ℝ)) : EReal) := by
  show (((BitVec.ofNat 32 n).toInt : ℝ) : EReal) = _
  rw [toInt_ofNat n h]
  norm_cast

theorem floor_coe (x : ℝ) : (Scalar.floor ((x : EReal) : Ideal .f32) : Ideal .f32) = ((⌊x⌋ : ℝ) : EReal) := rfl

/-- A number kept where two tests hold and zero elsewhere. -/
theorem select_and (p q : Prop) [Decidable p] [Decidable q] (a : ℝ) :
    Scalar.select (IntOp.andi (BitVec.ofBool (decide p)) (BitVec.ofBool (decide q))) (a : EReal) ((0 : ℝ) : EReal)
      = ((if p ∧ q then a else 0 : ℝ) : EReal) := by
  by_cases hp : p <;> by_cases hq : q <;> simp [hp, hq, Scalar.select, IntOp.andi]

/-- A finite sum of reals is the same sum over the extended reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-! ## The Gaussian -/

/-- The unnormalised Gaussian of variance 4, cut off beyond 15. -/
def bell (d : ℝ) : ℝ := if -15 ≤ d ∧ d ≤ 15 then Real.exp (-(d * d) / 8) else 0

/-- A unit of weight at `x`, split between the whole numbers about it and blurred, at the place `v`. -/
def tap (x : ℝ) (v : ℕ) : ℝ :=
  ((1 - (x - ⌊x⌋)) * bell (v - ⌊x⌋) + (x - ⌊x⌋) * bell (v - ⌊x⌋ - 1)) * nrm

/-- The two-dimensional Gaussian between two pixels. -/
def bell2 (dy dx : ℝ) : ℝ := (bell dy * nrm) * (bell dx * nrm)

/-- The four corners' weights, blurred, are the product of the two axes' taps. -/
theorem four_corners (y x : ℝ) (u v : ℕ) :
    (1 - (x - ⌊x⌋)) * (1 - (y - ⌊y⌋)) * bell2 (u - ⌊y⌋) (v - ⌊x⌋)
      + (1 - (x - ⌊x⌋)) * (y - ⌊y⌋) * bell2 (u - (⌊y⌋ + 1)) (v - ⌊x⌋)
      + (x - ⌊x⌋) * (1 - (y - ⌊y⌋)) * bell2 (u - ⌊y⌋) (v - (⌊x⌋ + 1))
      + (x - ⌊x⌋) * (y - ⌊y⌋) * bell2 (u - (⌊y⌋ + 1)) (v - (⌊x⌋ + 1))
      = tap y u * tap x v := by
  unfold bell2 tap
  rw [sub_sub (u : ℝ), sub_sub (v : ℝ)]
  ring

/-- The sum of the squared differences between a product of taps and an image, multiplied out. -/
theorem square_expand (f g : Fin 256 → ℝ) (q : Fin 256 → Fin 256 → ℝ) :
    (∑ u, f u * f u) * (∑ v, g v * g v) - 2 * (∑ u, f u * ∑ v, q u v * g v) + ∑ v, ∑ u, q u v * q u v
      = ∑ u, ∑ v, (f u * g v - q u v) * (f u * g v - q u v) := by
  have h : ∀ u v, (f u * g v - q u v) * (f u * g v - q u v)
      = (f u * f u) * (g v * g v) - 2 * (f u * (q u v * g v)) + q u v * q u v := fun u v => by ring
  simp only [h, Finset.sum_add_distrib, Finset.sum_sub_distrib, ← Finset.mul_sum, Finset.sum_mul]
  rw [Finset.sum_comm (f := fun v u => q u v * q u v)]

end Cert.Gauss
-- ==== Proof.RefVal.lean ====
module

public import proofs.«01_k».proof.Proof.Gen.ReferenceIdeal.Read
public import Idealize.ShloMosaic.Lib.Pointwise
public import Idealize.ShloMosaic.Lib.Routing.OpsPair
public import proofs.«01_k».proof.Proof.Gauss

/-! # The reference's blurred impulses -/

@[expose] public section

noncomputable section

namespace Cert.Ref

open Idealize.ShloMosaic Idealize.ShloMosaic.Tactic Idealize.SL.Sem
open Cert.ReferenceIdeal Cert.ReferenceIdeal.Gen Cert.ReferenceIdeal.Read Cert.Gauss

variable (x0 : FVec Ideal S32x13x256x256 .f32) (x1 : FVec Ideal S32x13x3 .f32) (x2 : FVec Ideal S32 .f32)

/-! ## The whole part of a target -/

/-- The whole part of a number that is not negative and below 255, as a word. -/
theorem word_of_real (X : ℝ) (h0 : 0 ≤ X) (h1 : X < 255) : Ideal.fptosi 32 ((X : ℝ) : EReal) = BitVec.ofNat 32 ⌊X⌋.toNat := by
  have hf0 : 0 ≤ ⌊X⌋ := Int.floor_nonneg.2 h0
  have hf1 : ⌊X⌋ < 255 := Int.floor_lt.2 (by exact_mod_cast h1)
  show BitVec.ofInt 32 (max _ (min _ (if 0 ≤ X then ⌊X⌋ else ⌈X⌉))) = _
  rw [if_pos h0, min_eq_right (by norm_num; omega), max_eq_right (by norm_num; omega)]
  conv_lhs => rw [← Int.toNat_of_nonneg hf0]
  rw [BitVec.ofInt_natCast]

theorem toNat_le (X : ℝ) (h0 : 0 ≤ X) (h1 : X < 255) : ⌊X⌋.toNat ≤ 254 := by
  have hf1 : ⌊X⌋ < 255 := Int.floor_lt.2 (by exact_mod_cast h1)
  omega

theorem v5_at (b : Fin 32) (k : Fin 13) :
    val_main_v5 (F := Ideal) x1 (ix2 b k) = Ideal.fptosi 32 (x1 (ix3 b k (0 : Fin 3))) := by
  pointwise [val_main_v5, val_main_v4, val_main_v1, val_main_v0]
  rfl

theorem v7_at (b : Fin 32) (k : Fin 13) :
    val_main_v7 (F := Ideal) x1 (ix2 b k) = Ideal.fptosi 32 (x1 (ix3 b k (1 : Fin 3))) := by
  pointwise [val_main_v7, val_main_v6, val_main_v1, val_main_v0]
  rfl

/-- Two words below 256 pass the four tests of a place inside the plane. -/
theorem inside (a b : ℕ) (ha : a < 256) (hb : b < 256) :
    IntOp.andi (IntOp.andi (IntOp.andi (IntOp.cmpi .sge (BitVec.ofNat 32 a) 0#32) (IntOp.cmpi .sge (BitVec.ofNat 32 b) 0#32))
      (IntOp.cmpi .slt (BitVec.ofNat 32 a) 256#32)) (IntOp.cmpi .slt (BitVec.ofNat 32 b) 256#32) = 1#1 := by
  rw [WordCmp.cmpi_sge_eq, WordCmp.cmpi_sge_eq, WordCmp.cmpi_slt_eq, WordCmp.cmpi_slt_eq, toInt_ofNat a (by omega),
    toInt_ofNat b (by omega), toInt_ofNat 256 (by omega), toInt_ofNat 0 (by omega)]
  simp [IntOp.andi, ha, hb]

/-- A flat place moved on by `d`. -/
theorem add_word (w n d r : ℕ) (h : w + n + d = r) : IntOp.addi (BitVec.ofNat 32 (w + n)) (BitVec.ofNat 32 d) = BitVec.ofNat 32 r := by
  show BitVec.ofNat 32 _ + BitVec.ofNat 32 _ = _
  rw [← BitVec.ofNat_add, h]

/-- The next word. -/
theorem succ_word (n : ℕ) : IntOp.addi (BitVec.ofNat 32 n) 1#32 = BitVec.ofNat 32 (n + 1) := by
  show BitVec.ofNat 32 _ + BitVec.ofNat 32 1 = _
  rw [← BitVec.ofNat_add]

section Words

variable (b : Fin 32) (k : Fin 13) (nx ny : ℕ) (hx : nx ≤ 254) (hy : ny ≤ 254)
  (e5 : val_main_v5 (F := Ideal) x1 (ix2 b k) = BitVec.ofNat 32 nx) (e7 : val_main_v7 (F := Ideal) x1 (ix2 b k) = BitVec.ofNat 32 ny)

include hx hy e5 e7 in
theorem mask1 : val_main_v37 (F := Ideal) x1 (ix2 b k) = 1#1 := by
  revert e5 e7
  generalize hA : val_main_v5 (F := Ideal) x1 = A
  generalize hB : val_main_v7 (F := Ideal) x1 = B
  intro e5 e7
  pointwise [val_main_v37, val_main_v34, val_main_v31, val_main_v28, val_main_v30, val_main_v33, val_main_v36, val_main_v27,
    val_main_v29, val_main_v32, val_main_v35, val_main_c_2, val_main_c_3, val_main_c_4, val_main_c_5, hA, hB]
  rw [e5, e7]
  exact inside nx ny (by omega) (by omega)

include hx hy e5 e7 in
theorem flat1 : val_main_v26 (F := Ideal) x1 (ix2 b k) = BitVec.ofNat 32 (65536 * (13 * b.val + k.val) + (256 * ny + nx)) := by
  revert e5 e7
  generalize hA : val_main_v5 (F := Ideal) x1 = A
  generalize hB : val_main_v7 (F := Ideal) x1 = B
  intro e5 e7
  pointwise [val_main_v26, val_main_v25, val_main_v24, val_main_v23, val_main_v22, val_main_v21, val_main_v20, val_main_v19,
    val_main_v18, val_main_v17, val_main_v16, val_main_v15, val_main_v14, val_main_v13, val_main_v12, val_main_c, val_main_c_0, val_main_c_1, hA, hB]
  rw [e5, e7]
  simp only [IntOp.addi, IntOp.muli, ← BitVec.ofNat_mul, ← BitVec.ofNat_add]
  congr 1
  ring

include hx hy e5 e7 in
theorem mask2 : val_main_v52 (F := Ideal) x1 (ix2 b k) = 1#1 := by
  revert e5 e7
  generalize hA : val_main_v5 (F := Ideal) x1 = A
  generalize hB : val_main_v7 (F := Ideal) x1 = B
  intro e5 e7
  pointwise [val_main_v52, val_main_v51, val_main_v50, val_main_v49, val_main_v48, val_main_v47, val_main_v46, val_main_v45, val_main_v44,
    val_main_v43, val_main_v42, val_main_v41, val_main_v40, val_main_v39, val_main_v38, val_main_c_6, val_main_c_7, val_main_c_8,
    val_main_c_9, val_main_c_10, val_main_c_11, hA, hB]
  rw [e5, e7, succ_word]
  exact inside nx (ny + 1) (by omega) (by omega)

include hx hy e5 e7 in
theorem mask3 : val_main_v67 (F := Ideal) x1 (ix2 b k) = 1#1 := by
  revert e5 e7
  generalize hA : val_main_v5 (F := Ideal) x1 = A
  generalize hB : val_main_v7 (F := Ideal) x1 = B
  intro e5 e7
  pointwise [val_main_v67, val_main_v66, val_main_v65, val_main_v64, val_main_v63, val_main_v62, val_main_v61, val_main_v60, val_main_v59,
    val_main_v58, val_main_v57, val_main_v56, val_main_v55, val_main_v54, val_main_v53, val_main_c_12, val_main_c_13, val_main_c_14,
    val_main_c_15, val_main_c_16, val_main_c_17, hA, hB]
  rw [e5, e7, succ_word]
  exact inside (nx + 1) ny (by omega) (by omega)

include hx hy e5 e7 in
theorem mask4 : val_main_v86 (F := Ideal) x1 (ix2 b k) = 1#1 := by
  revert e5 e7
  generalize hA : val_main_v5 (F := Ideal) x1 = A
  generalize hB : val_main_v7 (F := Ideal) x1 = B
  intro e5 e7
  pointwise [val_main_v86, val_main_v85, val_main_v84, val_main_v83, val_main_v82, val_main_v81, val_main_v80, val_main_v79, val_main_v78,
    val_main_v77, val_main_v76, val_main_v75, val_main_v74, val_main_v73, val_main_v72, val_main_v71, val_main_v70, val_main_v69, val_main_v68,
    val_main_c_18, val_main_c_19, val_main_c_20, val_main_c_21, val_main_c_22, val_main_c_23, val_main_c_24, val_main_c_25, hA, hB]
  rw [e5, e7, succ_word, succ_word]
  exact inside (nx + 1) (ny + 1) (by omega) (by omega)

include hx hy e5 e7 in
theorem flat2 : val_main_v106 (F := Ideal) x1 (ix2 b k)
    = BitVec.ofNat 32 (65536 * (13 * b.val + k.val) + (256 * (ny + 1) + nx)) := by
  have h := flat1 x1 b k nx ny hx hy e5 e7
  show IntOp.addi (val_main_v26 (F := Ideal) x1 (ix2 b k)) 256#32 = _
  rw [h]
  exact add_word _ _ _ _ (by ring)

include hx hy e5 e7 in
theorem flat3 : val_main_v123 (F := Ideal) x1 (ix2 b k)
    = BitVec.ofNat 32 (65536 * (13 * b.val + k.val) + (256 * ny + (nx + 1))) := by
  have h := flat1 x1 b k nx ny hx hy e5 e7
  show IntOp.addi (val_main_v26 (F := Ideal) x1 (ix2 b k)) 1#32 = _
  rw [h]
  exact add_word _ _ _ _ (by ring)

include hx hy e5 e7 in
theorem flat4 : val_main_v142 (F := Ideal) x1 (ix2 b k)
    = BitVec.ofNat 32 (65536 * (13 * b.val + k.val) + (256 * (ny + 1) + (nx + 1))) := by
  have h := flat2 x1 b k nx ny hx hy e5 e7
  show IntOp.addi (val_main_v106 (F := Ideal) x1 (ix2 b k)) 1#32 = _
  rw [h]
  exact add_word _ _ _ _ (by ring)

end Words

/-! ## The corners' weights -/

section Fractions

variable (b : Fin 32) (k : Fin 13) (X Y : ℝ) (h0 : 0 ≤ X) (h1 : X < 255) (h0' : 0 ≤ Y) (h1' : Y < 255)
  (eX : x1 (ix3 b k (0 : Fin 3)) = ((X : ℝ) : EReal)) (eY : x1 (ix3 b k (1 : Fin 3)) = ((Y : ℝ) : EReal))

/-- A number less its whole part, as a word and back. -/
theorem fraction (X : ℝ) (h0 : 0 ≤ X) (h1 : X < 255) :
    (X : EReal) - (FloatOps.sitofp .f32 (Ideal.fptosi 32 ((X : ℝ) : EReal)) : Ideal .f32) = ((X - ⌊X⌋ : ℝ) : EReal) := by
  have := toNat_le X h0 h1
  rw [word_of_real X h0 h1, sitofp_ofNat _ (by omega), ← EReal.coe_sub]
  have e : ((⌊X⌋.toNat : ℕ) : ℝ) = ((⌊X⌋ : ℤ) : ℝ) := by
    exact_mod_cast congrArg (fun z : ℤ => (z : ℝ)) (Int.toNat_of_nonneg (Int.floor_nonneg.2 h0))
  rw [e]

include h0 h1 eX in
theorem v9_at : val_main_v9 (F := Ideal) x1 (ix2 b k) = ((X - ⌊X⌋ : ℝ) : EReal) := by
  refine Eq.trans ?_ (fraction X h0 h1)
  pointwise [val_main_v9, val_main_v8, val_main_v3, val_main_v2, val_main_v1, val_main_v0]
  rw [eX]
  rfl

include h0' h1' eY in
theorem v11_at : val_main_v11 (F := Ideal) x1 (ix2 b k) = ((Y - ⌊Y⌋ : ℝ) : EReal) := by
  refine Eq.trans ?_ (fraction Y h0' h1')
  pointwise [val_main_v11, val_main_v10, val_main_v3, val_main_v2, val_main_v1, val_main_v0]
  rw [eY]
  rfl

/-- The four weights at a sample and joint. -/
theorem corner_weights :
    val_main_v92 (F := Ideal) x1 (ix2 b k) = (1 - (val_main_v9 (F := Ideal) x1 (ix2 b k) : EReal)) * (1 - val_main_v11 (F := Ideal) x1 (ix2 b k))
    ∧ val_main_v109 (F := Ideal) x1 (ix2 b k) = (1 - (val_main_v9 (F := Ideal) x1 (ix2 b k) : EReal)) * val_main_v11 (F := Ideal) x1 (ix2 b k)
    ∧ val_main_v126 (F := Ideal) x1 (ix2 b k) = (val_main_v9 (F := Ideal) x1 (ix2 b k) : EReal) * (1 - val_main_v11 (F := Ideal) x1 (ix2 b k))
    ∧ val_main_v143 (F := Ideal) x1 (ix2 b k) = (val_main_v9 (F := Ideal) x1 (ix2 b k) : EReal) * val_main_v11 (F := Ideal) x1 (ix2 b k) := by
  refine ⟨?_, ?_, ?_, ?_⟩
  · pointwise [val_main_v92, val_main_v91, val_main_v90, val_main_v89, val_main_v88, val_main_cst_26, val_main_cst_27]
  · pointwise [val_main_v109, val_main_v108, val_main_v107, val_main_cst_32]
  · pointwise [val_main_v126, val_main_v125, val_main_v124, val_main_cst_37]
  · pointwise [val_main_v143]

end Fractions

/-! ## The scatter -/

/-- A one-axis index is its coordinate. -/
def e416 : S416.Idx ≃ Fin 416 where
  toFun j := j 0
  invFun i := ix1 i
  left_inv j := by
    funext a
    match a with
    | ⟨0, _⟩ => rfl
  right_inv _ := rfl

theorem scatter_at (op : FVec Ideal S27262976 .f32) (idx : IVec S416x1 32) (upd : FVec Ideal S416 .f32) (n : Fin 416 → ℕ)
    (hn : ∀ j, n j < 2 ^ 31) (h : ∀ j, idx (ix2 j (0 : Fin 1)) = BitVec.ofNat 32 (n j)) (i : Fin 27262976) :
    (Host.scatterAdd scatter_S27262976_S416x1_S416_n_0_0_1 op idx upd (ix1 i) : EReal)
      = op (ix1 i) + ∑ j : Fin 416, if n j = i.val then (upd (ix1 j) : EReal) else 0 := by
  have hl (j : Fin 416) : scatter_S27262976_S416x1_S416_n_0_0_1.resultIdx? (ix1 j) idx = some (ix1 i) ↔ n j = i.val := by
    refine (Routing.resultIdx?_ix1 (N := 27262976) scatter_S27262976_S416x1_S416_n_0_0_1 (ix1 j) idx i).trans ?_
    have hw : scatter_S27262976_S416x1_S416_n_0_0_1.window (ix1 j) 0 = 0 := by
      unfold ScatterDims.window
      rw [dif_neg (by decide)]
    have hs : scatter_S27262976_S416x1_S416_n_0_0_1.start (ix1 j) idx 0 = ((n j : ℕ) : ℤ) := by
      unfold ScatterDims.start
      rw [dif_pos (by decide)]
      refine Eq.trans (congrArg (fun a => (idx a).toInt) ?_) ((congrArg BitVec.toInt (h j)).trans (toInt_ofNat _ (hn j)))
      funext a
      match a with
      | ⟨0, _⟩ => rfl
      | ⟨1, _⟩ => rfl
    rw [hw, hs]
    omega
  show (op (ix1 i) : EReal) + ∑ j ∈ Finset.univ.filter (fun j => scatter_S27262976_S416x1_S416_n_0_0_1.resultIdx? j idx = some (ix1 i)), (upd j : EReal) = _
  congr 1
  rw [Finset.sum_filter]
  refine Eq.trans (Fintype.sum_equiv (e416 : S416.Idx ≃ Fin 416) _ (fun j : Fin 416 => if n j = i.val then (upd (ix1 j) : EReal) else 0) fun j => ?_) rfl
  have ej : j = ix1 (e416 j) := (e416.left_inv j).symm
  rw [ej]
  simp only [hl]
  rfl

/-! ## The weights -/

theorem v188_at (p : Fin 65536) (u v : Fin 256) :
    val_main_v188 (F := Ideal) (ix3 p u v)
      = val_main_v187 (F := Ideal) (ix4 (⟨p.val / 256, by omega⟩ : Fin 256) (⟨p.val % 256, by omega⟩ : Fin 256) u v) := by
  pointwise [val_main_v188]

theorem toInt_sub (a b : Fin 256) : (IntOp.subi (BitVec.ofNat 32 a.val) (BitVec.ofNat 32 b.val)).toInt = (a.val : ℤ) - b.val := by
  show (BitVec.ofNat 32 a.val - BitVec.ofNat 32 b.val).toInt = _
  rw [BitVec.toInt_sub, toInt_ofNat _ (by omega), toInt_ofNat _ (by omega), Int.bmod_eq_of_le] <;> omega

theorem v187_at (y x : Fin 256) (u v : Fin 256) :
    val_main_v187 (F := Ideal) (ix4 y x u v) = ((bell2 ((u.val : ℝ) - y.val) ((v.val : ℝ) - x.val) : ℝ) : EReal) := by
  pointwise [val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_call4_v1, val_main_call4_v0, val_main_cst_53, val_main_cst_52, val_main_cst_51, val_main_cst_50, val_main_c_46, val_main_c_47, val_main_c_48, val_main_c_49]
  have hs (a b : Fin 256) : (FloatOps.sitofp .f32 (IntOp.subi (BitVec.ofNat 32 a.val) (BitVec.ofNat 32 b.val)) : Ideal .f32)
      = (((a.val : ℝ) - b.val : ℝ) : EReal) := by
    show (((IntOp.subi (BitVec.ofNat 32 a.val) (BitVec.ofNat 32 b.val)).toInt : ℝ) : EReal) = _
    rw [toInt_sub]
    push_cast
    rfl
  have h0 : (id (constant (F := Ideal) S_ FTy.f32 0#32) ix0 : EReal) = ((0 : ℝ) : EReal) := lit_0
  rw [hs, hs, h0, lit_8, lit_nrm, WordCmp.cmpi_sge_eq, WordCmp.cmpi_sle_eq, WordCmp.cmpi_sge_eq, WordCmp.cmpi_sle_eq, toInt_sub, toInt_sub,
    Ideal.div_coe (by norm_num), ← EReal.coe_mul, ← EReal.coe_mul, ← EReal.coe_add, ← EReal.coe_neg, ← EReal.coe_mul, Ideal.exp_coe,
    ← EReal.coe_mul, ← EReal.coe_mul]
  rw [show (4294967281#32).toInt = -15 from rfl, show (15#32).toInt = 15 from rfl]
  have hl (a b : Fin 256) : (-15 : ℝ) ≤ (a.val : ℝ) - b.val ↔ (-15 : ℤ) ≤ (a.val : ℤ) - b.val := by exact_mod_cast Iff.rfl
  have hr (a b : Fin 256) : (a.val : ℝ) - b.val ≤ 15 ↔ (a.val : ℤ) - b.val ≤ 15 := by exact_mod_cast Iff.rfl
  unfold bell2 bell
  simp only [hl, hr]
  generalize (u.val : ℤ) - y.val = p
  generalize (v.val : ℤ) - x.val = q
  generalize (u.val : ℝ) - y.val = dy
  generalize (v.val : ℝ) - x.val = dx
  have he : Real.exp (-(dx * dx + dy * dy) * (1 / 8)) = Real.exp (-(dy * dy) / 8) * Real.exp (-(dx * dx) / 8) := by
    rw [← Real.exp_add]
    congr 1
    ring
  rw [he]
  by_cases h1 : -15 ≤ p <;> by_cases h2 : p ≤ 15 <;> by_cases h3 : -15 ≤ q <;> by_cases h4 : q ≤ 15 <;>
    simp [h1, h2, h3, h4, Scalar.select, IntOp.andi]
  norm_cast
  ring_nf

end Cert.Ref
-- ==== Proof.RefHeat.lean ====
module

public import proofs.«01_k».proof.Proof.RefVal

/-! # The reference's target heatmap -/

@[expose] public section

noncomputable section

namespace Cert.Ref

open Idealize.ShloMosaic Idealize.ShloMosaic.Tactic Idealize.SL.Sem
open Cert.ReferenceIdeal Cert.ReferenceIdeal.Gen Cert.ReferenceIdeal.Read Cert.Gauss

/-! ## One corner's scatter, at any mask, place and weight -/

section Corner

variable (M : IVec S32x13 1) (A Z : IVec S32x13 32) (W : FVec Ideal S32x13 .f32)

/-- A corner's flat places: where the mask holds, wrapped where negative. -/
def places : IVec S416x1 32 :=
  broadcastInDim S416x1 ![0] bcast_S416_S416x1_0
    (select (cmpi .slt (shapeCast S416 (select M A Z) shapeCasts_S32x13_S416) (broadcastInDim S416 ![] bcast_S_S416 (constantI S_ 32 0#32)))
      (addi (shapeCast S416 (select M A Z) shapeCasts_S32x13_S416) (broadcastInDim S416 ![] bcast_S_S416 (constantI S_ 32 27262976#32)))
      (shapeCast S416 (select M A Z) shapeCasts_S32x13_S416))

/-- A corner's weights: zero where the mask fails. -/
def weights : FVec Ideal S416 .f32 := shapeCast S416 (mulf W (uitofp .f32 M)) shapeCasts_S32x13_S416

/-- The sample of a plane. -/
def sb (j : Fin 416) : Fin 32 := ⟨j.val / 13, by omega⟩

/-- The joint of a plane. -/
def sk (j : Fin 416) : Fin 13 := ⟨j.val % 13, by omega⟩

/-- The plane of a sample and a joint. -/
def pj (b : Fin 32) (k : Fin 13) : Fin 416 := ⟨13 * b.val + k.val, by omega⟩

theorem flat416 {α : Type} (v : S32x13.Idx → α) (j : Fin 416) : shapeCast S416 v shapeCasts_S32x13_S416 (ix1 j) = v (ix2 (sb j) (sk j)) := by
  refine shapeCast_apply _ _ (ix1 j) (ix2 (sb j) (sk j)) ?_
  rw [Shape.rowMajor_val_two, Shape.rowMajor_val_one]
  show j.val / 13 * 13 + j.val % 13 = j.val
  omega

variable (o : Fin 32 → Fin 13 → ℕ) (ho : ∀ b k, o b k < 65536) (hM : ∀ b k, M (ix2 b k) = 1#1)
  (hA : ∀ b k, A (ix2 b k) = BitVec.ofNat 32 (65536 * (13 * b.val + k.val) + o b k))

include ho hM hA in
theorem places_at (j : Fin 416) : places M A Z (ix2 j (0 : Fin 1)) = BitVec.ofNat 32 (65536 * j.val + o (sb j) (sk j)) := by
  have h1 : shapeCast S416 (select M A Z) shapeCasts_S32x13_S416 (ix1 j) = BitVec.ofNat 32 (65536 * j.val + o (sb j) (sk j)) := by
    rw [flat416]
    show Scalar.select (M _) (A _) (Z _) = _
    rw [hM, hA]
    show BitVec.ofNat 32 (65536 * (13 * (j.val / 13) + j.val % 13) + _) = _
    rw [Nat.div_add_mod]
  unfold places
  generalize shapeCast S416 (select M A Z) shapeCasts_S32x13_S416 = B at h1 ⊢
  pointwise
  rw [h1]
  have := ho (sb j) (sk j)
  exact Routing.wrap_of_lt _ _ (by rw [BitVec.toNat_ofNat]; omega)

include hM in
theorem weights_at (j : Fin 416) : (weights M W (ix1 j) : EReal) = W (ix2 (sb j) (sk j)) := by
  unfold weights
  rw [flat416]
  show (W (ix2 (sb j) (sk j)) : EReal) * (((M (ix2 (sb j) (sk j))).toNat : ℝ) : EReal) = _
  rw [hM]
  simp

/-- The flat index of place `e` of a plane. -/
def cell (b : Fin 32) (k : Fin 13) (e : Fin 65536) : Fin 27262976 := ⟨65536 * (13 * b.val + k.val) + e.val, by omega⟩

include ho hM hA in
/-- One corner's scatter adds its weight at its place of the plane. -/
theorem corner (op : FVec Ideal S27262976 .f32) (b : Fin 32) (k : Fin 13) (e : Fin 65536) :
    (Host.scatterAdd scatter_S27262976_S416x1_S416_n_0_0_1 op (places M A Z) (weights M W) (ix1 (cell b k e)) : EReal)
      = op (ix1 (cell b k e)) + if o b k = e.val then (W (ix2 b k) : EReal) else 0 := by
  rw [scatter_at op (places M A Z) (weights M W) (fun j => 65536 * j.val + o (sb j) (sk j))
    (fun j => by have := ho (sb j) (sk j); omega) (places_at M A Z o ho hM hA) (cell b k e)]
  congr 1
  have hb : sb (pj b k) = b := Fin.ext (by show (13 * b.val + k.val) / 13 = b.val; omega)
  have hk : sk (pj b k) = k := Fin.ext (by show (13 * b.val + k.val) % 13 = k.val; omega)
  rw [Finset.sum_eq_single (pj b k)]
  · rw [weights_at M W hM, hb, hk]
    refine if_congr ?_ rfl rfl
    show 65536 * (13 * b.val + k.val) + o b k = 65536 * (13 * b.val + k.val) + e.val ↔ _
    omega
  · intro j _ hj
    refine if_neg fun h => hj (Fin.ext ?_)
    have := ho (sb j) (sk j)
    have h' : 65536 * j.val + o (sb j) (sk j) = 65536 * (13 * b.val + k.val) + e.val := h
    show j.val = 13 * b.val + k.val
    omega
  · intro h
    exact absurd (Finset.mem_univ _) h

end Corner

/-! ## The four corners -/

variable (x1 : FVec Ideal S32x13x3 .f32)

theorem v104_eq : val_main_v104 (F := Ideal) x1 = Host.scatterAdd scatter_S27262976_S416x1_S416_n_0_0_1 (val_main_v87 (F := Ideal))
    (places (val_main_v37 (F := Ideal) x1) (val_main_v26 (F := Ideal) x1) (val_main_call0_v1 (F := Ideal)))
    (weights (val_main_v37 (F := Ideal) x1) (val_main_v92 (F := Ideal) x1)) := rfl

theorem v121_eq : val_main_v121 (F := Ideal) x1 = Host.scatterAdd scatter_S27262976_S416x1_S416_n_0_0_1 (val_main_v104 (F := Ideal) x1)
    (places (val_main_v52 (F := Ideal) x1) (val_main_v106 (F := Ideal) x1) (val_main_call1_v1 (F := Ideal)))
    (weights (val_main_v52 (F := Ideal) x1) (val_main_v109 (F := Ideal) x1)) := rfl

theorem v138_eq : val_main_v138 (F := Ideal) x1 = Host.scatterAdd scatter_S27262976_S416x1_S416_n_0_0_1 (val_main_v121 (F := Ideal) x1)
    (places (val_main_v67 (F := Ideal) x1) (val_main_v123 (F := Ideal) x1) (val_main_call2_v1 (F := Ideal)))
    (weights (val_main_v67 (F := Ideal) x1) (val_main_v126 (F := Ideal) x1)) := rfl

theorem v155_eq : val_main_v155 (F := Ideal) x1 = Host.scatterAdd scatter_S27262976_S416x1_S416_n_0_0_1 (val_main_v138 (F := Ideal) x1)
    (places (val_main_v86 (F := Ideal) x1) (val_main_v142 (F := Ideal) x1) (val_main_call3_v1 (F := Ideal)))
    (weights (val_main_v86 (F := Ideal) x1) (val_main_v143 (F := Ideal) x1)) := rfl

theorem v156_at (b : Fin 32) (k : Fin 13) (e : Fin 65536) :
    val_main_v156 (F := Ideal) x1 (ix3 b k e) = val_main_v155 (F := Ideal) x1 (ix1 (cell b k e)) := by
  refine shapeCast_apply _ _ (ix3 b k e) (ix1 (cell b k e)) ?_
  rw [Shape.rowMajor_val_three, Shape.rowMajor_val_one]
  show 65536 * (13 * b.val + k.val) + e.val = (b.val * 13 + k.val) * 65536 + e.val
  omega

section Target

variable (X Y : Fin 32 → Fin 13 → ℝ) (hX : ∀ b k, 0 ≤ X b k ∧ X b k < 255) (hY : ∀ b k, 0 ≤ Y b k ∧ Y b k < 255)
  (eX : ∀ b k, x1 (ix3 b k (0 : Fin 3)) = ((X b k : ℝ) : EReal)) (eY : ∀ b k, x1 (ix3 b k (1 : Fin 3)) = ((Y b k : ℝ) : EReal))

include hX hY eX eY in
/-- The four weights, each at its place of the plane. -/
theorem v155_at (b : Fin 32) (k : Fin 13) (e : Fin 65536) :
    val_main_v155 (F := Ideal) x1 (ix1 (cell b k e))
      = ((((((if 256 * ⌊Y b k⌋.toNat + ⌊X b k⌋.toNat = e.val then (1 - (X b k - ⌊X b k⌋)) * (1 - (Y b k - ⌊Y b k⌋)) else 0)
        + if 256 * (⌊Y b k⌋.toNat + 1) + ⌊X b k⌋.toNat = e.val then (1 - (X b k - ⌊X b k⌋)) * (Y b k - ⌊Y b k⌋) else 0)
        + if 256 * ⌊Y b k⌋.toNat + (⌊X b k⌋.toNat + 1) = e.val then (X b k - ⌊X b k⌋) * (1 - (Y b k - ⌊Y b k⌋)) else 0)
        + if 256 * (⌊Y b k⌋.toNat + 1) + (⌊X b k⌋.toNat + 1) = e.val then (X b k - ⌊X b k⌋) * (Y b k - ⌊Y b k⌋) else 0) : ℝ) : EReal) := by
  have hx b k := toNat_le (X b k) (hX b k).1 (hX b k).2
  have hy b k := toNat_le (Y b k) (hY b k).1 (hY b k).2
  have e5 b k : val_main_v5 (F := Ideal) x1 (ix2 b k) = BitVec.ofNat 32 ⌊X b k⌋.toNat := by
    rw [v5_at, eX, word_of_real _ (hX b k).1 (hX b k).2]
  have e7 b k : val_main_v7 (F := Ideal) x1 (ix2 b k) = BitVec.ofNat 32 ⌊Y b k⌋.toNat := by
    rw [v7_at, eY, word_of_real _ (hY b k).1 (hY b k).2]
  obtain ⟨w1, w2, w3, w4⟩ := corner_weights x1 b k
  have e9 := v9_at x1 b k (X b k) (hX b k).1 (hX b k).2 (eX b k)
  have e11 := v11_at x1 b k (Y b k) (hY b k).1 (hY b k).2 (eY b k)
  rw [e9] at w1 w2 w3 w4
  rw [e11] at w1 w2 w3 w4
  have one (a : ℝ) : (1 : EReal) - (a : EReal) = ((1 - a : ℝ) : EReal) := by
    rw [EReal.coe_sub, EReal.coe_one]
  rw [one, one, ← EReal.coe_mul] at w1
  rw [one, ← EReal.coe_mul] at w2 w3
  rw [← EReal.coe_mul] at w4
  have zero : val_main_v87 (F := Ideal) (ix1 (cell b k e)) = (0 : EReal) := lit_0
  rw [v155_eq, corner _ _ _ _ (fun b k => 256 * (⌊Y b k⌋.toNat + 1) + (⌊X b k⌋.toNat + 1))
      (fun b k => by have := hx b k; have := hy b k; omega)
      (fun b k => mask4 x1 b k _ _ (hx b k) (hy b k) (e5 b k) (e7 b k)) (fun b k => flat4 x1 b k _ _ (hx b k) (hy b k) (e5 b k) (e7 b k)),
    v138_eq, corner _ _ _ _ (fun b k => 256 * ⌊Y b k⌋.toNat + (⌊X b k⌋.toNat + 1))
      (fun b k => by have := hx b k; have := hy b k; omega)
      (fun b k => mask3 x1 b k _ _ (hx b k) (hy b k) (e5 b k) (e7 b k)) (fun b k => flat3 x1 b k _ _ (hx b k) (hy b k) (e5 b k) (e7 b k)),
    v121_eq, corner _ _ _ _ (fun b k => 256 * (⌊Y b k⌋.toNat + 1) + ⌊X b k⌋.toNat)
      (fun b k => by have := hx b k; have := hy b k; omega)
      (fun b k => mask2 x1 b k _ _ (hx b k) (hy b k) (e5 b k) (e7 b k)) (fun b k => flat2 x1 b k _ _ (hx b k) (hy b k) (e5 b k) (e7 b k)),
    v104_eq, corner _ _ _ _ (fun b k => 256 * ⌊Y b k⌋.toNat + ⌊X b k⌋.toNat)
      (fun b k => by have := hx b k; have := hy b k; omega)
      (fun b k => mask1 x1 b k _ _ (hx b k) (hy b k) (e5 b k) (e7 b k)) (fun b k => flat1 x1 b k _ _ (hx b k) (hy b k) (e5 b k) (e7 b k)),
    zero, w1, w2, w3, w4]
  have hc (p : Prop) [Decidable p] (a : ℝ) : (if p then (a : EReal) else 0) = ((if p then a else 0 : ℝ) : EReal) := by
    split <;> simp
  simp only [hc, zero_add, ← EReal.coe_add]

include hX hY eX eY in
/-- The reference's heatmap is the product of the two axes' taps. -/
theorem v189_at (b : Fin 32) (k : Fin 13) (u v : Fin 256) :
    val_main_v189 (F := Ideal) x1 (ix4 b k u v) = ((tap (Y b k) u.val * tap (X b k) v.val : ℝ) : EReal) := by
  have hx := toNat_le (X b k) (hX b k).1 (hX b k).2
  have hy := toNat_le (Y b k) (hY b k).1 (hY b k).2
  have cX : ((⌊X b k⌋.toNat : ℕ) : ℝ) = ((⌊X b k⌋ : ℤ) : ℝ) := by
    exact_mod_cast congrArg (fun z : ℤ => (z : ℝ)) (Int.toNat_of_nonneg (Int.floor_nonneg.2 (hX b k).1))
  have cY : ((⌊Y b k⌋.toNat : ℕ) : ℝ) = ((⌊Y b k⌋ : ℤ) : ℝ) := by
    exact_mod_cast congrArg (fun z : ℤ => (z : ℝ)) (Int.toNat_of_nonneg (Int.floor_nonneg.2 (hY b k).1))
  have hd : val_main_v189 (F := Ideal) x1 (ix4 b k u v)
      = ∑ e : Fin 65536, (val_main_v156 (F := Ideal) x1 (ix3 b k e) : EReal) * val_main_v188 (F := Ideal) (ix3 e u v) := by
    pointwise [val_main_v189]
  rw [hd]
  simp only [v156_at, v155_at x1 X Y hX hY eX eY, v188_at, v187_at, ← EReal.coe_mul, sum_coe]
  rw [← four_corners]
  have hs (r c : ℕ) (hr : r < 256) (hc : c < 256) (w : ℝ) (g : ℕ → ℕ → ℝ) :
      ∑ e : Fin 65536, (if 256 * r + c = e.val then w else 0) * g (e.val / 256) (e.val % 256) = w * g r c := by
    rw [Finset.sum_eq_single (⟨256 * r + c, by omega⟩ : Fin 65536)]
    · rw [if_pos rfl]
      show w * g ((256 * r + c) / 256) ((256 * r + c) % 256) = _
      rw [show (256 * r + c) / 256 = r by omega, show (256 * r + c) % 256 = c by omega]
    · intro e _ he
      rw [if_neg fun h => he (Fin.ext h.symm), zero_mul]
    · intro h
      exact absurd (Finset.mem_univ _) h
  have hg (r c : ℕ) (hr : r < 256) (hc : c < 256) (w : ℝ) :=
    hs r c hr hc w (fun y x => bell2 ((u.val : ℝ) - y) ((v.val : ℝ) - x))
  simp only [add_mul, Finset.sum_add_distrib]
  rw [hg _ _ (by omega) (by omega), hg _ _ (by omega) (by omega), hg _ _ (by omega) (by omega), hg _ _ (by omega) (by omega)]
  push_cast
  rw [cX, cY]

end Target

end Cert.Ref
-- ==== Proof.Plane.lean ====
module

public import proofs.«01_k».proof.Proof.Gen.KernelIdeal.Frame

/-! # One plane of the kernel's body

The kernel's body is 52 copies of one computation, one per plane of the block. Here that computation is
written once, as the body's own operations on the plane's three target words, its threshold and its
block of predictions; the module `Steps` shows that what the body stores is this, plane by plane. -/

@[expose] public section

noncomputable section

namespace Cert.Plane

open Idealize.ShloMosaic Idealize.SL.Sem
open Cert.KernelIdeal Cert.KernelIdeal.Gen

variable {F : FTy → Type} [FloatOps F]

/-- The column's number, as a float, along a row. -/
def xi : FVec F S1x256 .f32 := sitofp .f32 (iota .tc S1x256 32 [1] iota_S1x256_d1_w32)

/-- The 31-tap Gaussian without its normalisation, at the distances `d`: zero beyond 15. -/
def bell (d : FVec F S1x256 .f32) : FVec F S1x256 .f32 :=
  select (andi (cmpf .oge d (broadcast S1x256 (Scalar.ofBits .f32 0xC1700000#32)))
      (cmpf .ole d (broadcast S1x256 (Scalar.ofBits .f32 0x41700000#32))))
    (exp (mulf (mulf d d) (broadcast S1x256 (Scalar.ofBits .f32 0xBE000000#32))))
    (broadcast S1x256 (Scalar.ofBits .f32 0x00000000#32))

/-- A unit of weight at `t`, split between the two neighbouring places and blurred, along one axis. -/
def taps (t : F .f32) : FVec F S1x256 .f32 :=
  mulf
    (addf
      (mulf (broadcast S1x256 (Scalar.subf (Scalar.ofBits .f32 0x3F800000#32) (Scalar.subf t (Scalar.floor t))))
        (bell (subf xi (broadcast S1x256 (Scalar.floor t)))))
      (mulf (broadcast S1x256 (Scalar.subf t (Scalar.floor t)))
        (bell (subf (subf xi (broadcast S1x256 (Scalar.floor t)))
          (broadcast S1x256 (Scalar.ofBits .f32 0x3F800000#32))))))
    (broadcast S1x256 (Scalar.ofBits .f32 0x3E4C422A#32))

/-- A row as the first of eight, the others zero. -/
def row8 (v : FVec F S1x256 .f32) : FVec F S8x256 .f32 :=
  select (cmpi .eq (iota .tc S8x256 32 [0] iota_S8x256_d0_w32) (broadcast S8x256 0#32))
    (broadcastTo S8x256 (shapeCast S1x256 v shapeCasts_S1x256_S1x256) broadcasts_S1x256_S8x256)
    (broadcast S8x256 (Scalar.ofBits .f32 0x00000000#32))

/-- The plane's target heatmap: the outer product of its two axes' taps. -/
def heat (tx ty : F .f32) : FVec F S256x256 .f32 :=
  matmul dot_S8x256_S8x256_S256x256_0_0_1_1_n_n none (row8 (taps ty)) (row8 (taps tx))
    (constant S256x256 .f32 0x00000000#32)

/-- A row's sum, as a one-cell block. -/
def rowSum (v : FVec F S1x256 .f32) : FVec F S1x1 .f32 :=
  shapeCast S1x1 (multiReduction .add [1] S1 v 0x00000000#32 reduces_S1x256_S1 (.inl rfl) rfl) shapeCasts_S1_S1x1

/-- The plane's loss with the square multiplied out. -/
def sqLoss (tx ty : F .f32) (q : FVec F S256x256 .f32) : FVec F S1x1 .f32 :=
  addf
    (subf
      (mulf (rowSum (mulf (taps ty) (taps ty))) (rowSum (mulf (taps tx) (taps tx))))
      (mulf (broadcast S1x1 (Scalar.ofBits .f32 0x40000000#32))
        (shapeCast S1x1
          (multiReduction .maximumf [0] S1
            (extractStridedSlice S1x1 ![0, 0]
              (matmul dot_S8x256_S256x8_S8x8_1_0_0_1_n_n none (row8 (taps ty))
                (matmul dot_S256x256_S8x256_S256x8_1_1_0_0_n_n none q (row8 (taps tx))
                  (constant S256x8 .f32 0x00000000#32))
                (constant S8x8 .f32 0x00000000#32))
              slices_S8x8_o0_0_S1x1)
            0xFF800000#32 reduces_S1x1_S1 (.inl rfl) rfl)
          shapeCasts_S1_S1x1)))
    (rowSum (shapeCast S1x256
      (multiReduction .add [0] S256 (mulf q q) 0x00000000#32 reduces_S256x256_S256 (.inl rfl) rfl)
      shapeCasts_S256_S1x256))

/-- Each column's maximum. -/
def colMax (q : FVec F S256x256 .f32) : FVec F S1x256 .f32 :=
  shapeCast S1x256
    (multiReduction .maximumf [0] S256 q 0xFF800000#32 reduces_S256x256_S256 (.inl rfl) rfl) shapeCasts_S256_S1x256

/-- The flat place of each column's maximum. -/
def colPlace (q : FVec F S256x256 .f32) : FVec F S1x256 .f32 :=
  addf
    (mulf (sitofp .f32 (shapeCast S1x256 (reduceIndex .argMax 0 S256 q reduces_S256x256_S256) shapeCasts_S256_S1x256))
      (broadcast S1x256 (Scalar.ofBits .f32 0x43800000#32)))
    xi

/-- The flat place of the plane's maximum. -/
def place (q : FVec F S256x256 .f32) : FVec F S1x1 .f32 :=
  shapeCast S1x1
    (multiReduction .minimumf [1] S1
      (select
        (cmpf .oeq (colMax q)
          (broadcastTo S1x256
            (shapeCast S1x1
              (multiReduction .maximumf [1] S1 (colMax q) 0xFF800000#32 reduces_S1x256_S1 (.inl rfl) rfl)
              shapeCasts_S1_S1x1)
            broadcasts_S1x1_S1x256))
        (colPlace q) (broadcast S1x256 (Scalar.ofBits .f32 0x4E6E6B28#32)))
      0x7F800000#32 reduces_S1x256_S1 (.inl rfl) rfl)
    shapeCasts_S1_S1x1

/-- The row of the maximum. -/
def yPred (q : FVec F S256x256 .f32) : FVec F S1x1 .f32 :=
  floor (mulf (place q) (broadcast S1x1 (Scalar.ofBits .f32 0x3B800000#32)))

/-- The column of the maximum. -/
def xPred (q : FVec F S256x256 .f32) : FVec F S1x1 .f32 :=
  subf (place q) (mulf (yPred q) (broadcast S1x1 (Scalar.ofBits .f32 0x43800000#32)))

/-- The distance from the maximum's place to the target. -/
def err (tx ty : F .f32) (q : FVec F S256x256 .f32) : FVec F S1x1 .f32 :=
  sqrt (addf
    (mulf (subf (xPred q) (broadcast S1x1 tx)) (subf (xPred q) (broadcast S1x1 tx)))
    (mulf (subf (yPred q) (broadcast S1x1 ty)) (subf (yPred q) (broadcast S1x1 ty))))

/-- One where the distance is within the threshold, else zero. -/
def inl (tx ty th : F .f32) (q : FVec F S256x256 .f32) : FVec F S1x1 .f32 :=
  select (cmpf .ole (err tx ty q) (broadcast S1x1 th))
    (broadcast S1x1 (Scalar.ofBits .f32 0x3F800000#32)) (broadcast S1x1 (Scalar.ofBits .f32 0x00000000#32))

/-- A one-cell block along 128 lanes. -/
def lanes (v : FVec F S1x1 .f32) : FVec F S1x128 .f32 :=
  broadcastTo S1x128 (shapeCast S1x1 v shapeCasts_S1x1_S1x1) broadcasts_S1x1_S1x128

/-- The lane's number. -/
def li : IVec S1x128 32 := iota .tc S1x128 32 [1] iota_S1x128_d1_w32

/-- The plane's statistics: column, row, distance, then zeros. -/
def stats (tx ty : F .f32) (q : FVec F S256x256 .f32) : FVec F S1x1x128 .f32 :=
  shapeCast S1x1x128
    (select (cmpi .eq li (broadcast S1x128 0#32)) (lanes (xPred q))
      (select (cmpi .eq li (broadcast S1x128 1#32)) (lanes (yPred q))
        (select (cmpi .eq li (broadcast S1x128 2#32)) (lanes (err tx ty q))
          (broadcast S1x128 (Scalar.ofBits .f32 0x00000000#32)))))
    shapeCasts_S1x128_S1x1x128

/-- A one-cell block over the four rows of 128 lanes. -/
def rows4 (v : FVec F S1x1 .f32) : FVec F S4x128 .f32 :=
  broadcastTo S4x128 (shapeCast S1x1 v shapeCasts_S1x1_S1x1) broadcasts_S1x1_S4x128

/-- The row's number. -/
def si4 : IVec S4x128 32 := iota .tc S4x128 32 [0] iota_S4x128_d0_w32

/-- What the plane adds to the four running sums. -/
def share (tx ty vis th : F .f32) (q : FVec F S256x256 .f32) : FVec F S4x128 .f32 :=
  select (cmpi .eq si4 (broadcast S4x128 0#32)) (rows4 (sqLoss tx ty q))
    (select (cmpi .eq si4 (broadcast S4x128 1#32)) (broadcast S4x128 vis)
      (select (cmpi .eq si4 (broadcast S4x128 2#32)) (rows4 (mulf (err tx ty q) (broadcast S1x1 vis)))
        (rows4 (mulf (inl tx ty th q) (broadcast S1x1 vis)))))

/-! ## The block's 52 planes -/

/-- A plane of the block of predictions, as the body loads it. -/
def planeOf (v : Vec F S1x256x256 .f32) : FVec F S256x256 .f32 := shapeCast S256x256 v shapeCasts_S1x256x256_S256x256

theorem inb_heat {n : ℕ} (h : n < 52) : ∀ a, (![n, 0, 0] : Fin 3 → ℕ) a + S1x256x256.size a ≤ S52x256x256.size a := by
  intro a; fin_cases a <;> simp <;> omega

theorem inb_stats {n : ℕ} (h : n < 52) : ∀ a, (![n, 0, 0] : Fin 3 → ℕ) a + S1x1x128.size a ≤ S52x1x128.size a := by
  intro a; fin_cases a <;> simp <;> omega

theorem inb_pred {n : ℕ} (h : n < 26) : ∀ a, (![n, 0, 0] : Fin 3 → ℕ) a + S1x256x256.size a ≤ S26x256x256.size a := by
  intro a; fin_cases a <;> simp <;> omega

/-- The stores of the first `n` planes' heatmaps, last first. -/
def heatPieces (X Y : Fin 52 → F .f32) : (n : ℕ) → n ≤ 52 → List (View.Piece (Elt F) S52x256x256 .f32)
  | 0, _ => []
  | n + 1, h =>
    ⟨Rect.unit ![n, 0, 0] S1x256x256.size (inb_heat h),
      shapeCast S1x256x256 (heat (X ⟨n, h⟩) (Y ⟨n, h⟩)) shapeCasts_S256x256_S1x256x256⟩
      :: heatPieces X Y n (Nat.le_of_lt h)

/-- The stores of the first `n` planes' statistics, last first. -/
def statsPieces (X Y : Fin 52 → F .f32) (Q : Fin 52 → FVec F S256x256 .f32) :
    (n : ℕ) → n ≤ 52 → List (View.Piece (Elt F) S52x1x128 .f32)
  | 0, _ => []
  | n + 1, h =>
    ⟨Rect.unit ![n, 0, 0] S1x1x128.size (inb_stats h), stats (X ⟨n, h⟩) (Y ⟨n, h⟩) (Q ⟨n, h⟩)⟩
      :: statsPieces X Y Q n (Nat.le_of_lt h)

/-- The four sums over the first `n` planes. -/
def sums (X Y V T : Fin 52 → F .f32) (Q : Fin 52 → FVec F S256x256 .f32) : (n : ℕ) → n ≤ 52 → FVec F S4x128 .f32
  | 0, _ => broadcast S4x128 (Scalar.ofBits .f32 0x00000000#32)
  | n + 1, h =>
    addf (sums X Y V T Q n (Nat.le_of_lt h)) (share (X ⟨n, h⟩) (Y ⟨n, h⟩) (V ⟨n, h⟩) (T ⟨n, h⟩) (Q ⟨n, h⟩))

/-! ## What the body loads -/

section Loads

variable (i : grid0.Coords) (arg1 : Memref sig .tc .smem S416x3 .f32) (harg1 : arg1.IsWhole)
  (arg2 : Memref sig .tc .smem S32 .f32) (harg2 : arg2.IsWhole)
  (arg3 : Memref sig .tc .vmem S26x256x256 .f32) (harg3 : arg3.IsWhole)
  (arg4 : Memref sig .tc .vmem S26x256x256 .f32) (harg4 : arg4.IsWhole)
  (x0 : Vec F S416x3 .f32) (x1 : Vec F S32 .f32) (x2 x3 : Vec F S26x256x256 .f32)

def ldX (g : Fin 52) : F .f32 :=
  View.readAt (Elt F) arg1.view (Rect.unit (s := S416x3) (k0_off1 i (BitVec.ofNat 32 g.val)) S1x1.size (k0_off1_inb i g)).toLoadRect
    (harg1.unread x0) (Shape.Idx.first (s := S1x1) (by decide))

def ldY (g : Fin 52) : F .f32 :=
  View.readAt (Elt F) arg1.view (Rect.unit (s := S416x3) (k0_off2 i (BitVec.ofNat 32 g.val)) S1x1.size (k0_off2_inb i g)).toLoadRect
    (harg1.unread x0) (Shape.Idx.first (s := S1x1) (by decide))

def ldV (g : Fin 52) : F .f32 :=
  View.readAt (Elt F) arg1.view (Rect.unit (s := S416x3) (k0_off3 i (BitVec.ofNat 32 g.val)) S1x1.size (k0_off3_inb i g)).toLoadRect
    (harg1.unread x0) (Shape.Idx.first (s := S1x1) (by decide))

def ldT (g : Fin 52) : F .f32 :=
  Scalar.mulf
    (View.readAt (Elt F) arg2.view (Rect.unit (s := S32) (k0_off4 i (BitVec.ofNat 32 g.val)) S1.size (k0_off4_inb i g)).toLoadRect
      (harg2.unread x1) (Shape.Idx.first (s := S1) (by decide)))
    (Scalar.ofBits .f32 0x3F000000#32)

def ldQ (g : Fin 52) : FVec F S256x256 .f32 :=
  planeOf (if h : g.val < 26 then
      View.readAt (Elt F) arg3.view (Rect.unit (s := S26x256x256) ![g.val, 0, 0] S1x256x256.size (inb_pred h)).toLoadRect (harg3.unread x2)
    else
      View.readAt (Elt F) arg4.view
        (Rect.unit (s := S26x256x256) ![g.val - 26, 0, 0] S1x256x256.size (inb_pred (n := g.val - 26) (by omega))).toLoadRect (harg4.unread x3))

end Loads

end Cert.Plane
-- ==== Proof.Argmax.lean ====
module

public import proofs.«01_k».proof.Proof.Plane
public import proofs.«01_k».proof.Proof.Gauss

/-! # The place of a plane's maximum, as the kernel finds it -/

@[expose] public section

noncomputable section

namespace Cert.Plane

open Idealize.ShloMosaic Idealize.ShloMosaic.Tactic Idealize.SL.Sem
open Cert.KernelIdeal Cert.KernelIdeal.Gen Cert.Gauss

/-- The cell `(y, x)` holds the greatest value, and no cell before it in the flat order does. -/
def First (r : Fin 256 → Fin 256 → ℝ) (y x : Fin 256) : Prop :=
  (∀ u v, r u v ≤ r y x) ∧ ∀ u v, r u v = r y x → 256 * y.val + x.val ≤ 256 * u.val + v.val

theorem exists_first (r : Fin 256 → Fin 256 → ℝ) : ∃ y x, First r y x := by
  classical
  obtain ⟨m, -, hm⟩ := Finset.exists_max_image (Finset.univ : Finset (Fin 256 × Fin 256)) (fun p => r p.1 p.2) ⟨(0, 0), Finset.mem_univ _⟩
  obtain ⟨n, hn, hmin⟩ := Finset.exists_min_image
    (Finset.univ.filter fun p : Fin 256 × Fin 256 => r p.1 p.2 = r m.1 m.2) (fun p => 256 * p.1.val + p.2.val) ⟨m, by simp⟩
  have e : r n.1 n.2 = r m.1 m.2 := by simpa using hn
  refine ⟨n.1, n.2, fun u v => e ▸ hm (u, v) (Finset.mem_univ _), fun u v h => hmin (u, v) ?_⟩
  simpa [e] using h

/-- The row `w` holds column `v`'s greatest value, and no row above it does. -/
def FirstIn (r : Fin 256 → Fin 256 → ℝ) (v w : Fin 256) : Prop :=
  (∀ u, r u v ≤ r w v) ∧ ∀ u, r u v = r w v → w.val ≤ u.val

theorem exists_firstIn (r : Fin 256 → Fin 256 → ℝ) (v : Fin 256) : ∃ w, FirstIn r v w := by
  classical
  obtain ⟨m, -, hm⟩ := Finset.exists_max_image (Finset.univ : Finset (Fin 256)) (fun u => r u v) ⟨0, Finset.mem_univ _⟩
  obtain ⟨n, hn, hmin⟩ := Finset.exists_min_image
    (Finset.univ.filter fun u : Fin 256 => r u v = r m v) (fun u => u.val) ⟨m, by simp⟩
  have e : r n v = r m v := by simpa using hn
  refine ⟨n, fun u => e ▸ hm u (Finset.mem_univ _), fun u h => hmin u ?_⟩
  simpa [e] using h

theorem reduceIndex_col (q : FVec Ideal S256x256 .f32) (r : Fin 256 → Fin 256 → ℝ)
    (hq : ∀ u v, q (ix2 u v) = ((r u v : ℝ) : EReal)) (v w : Fin 256) (hw : FirstIn r v w) :
    reduceIndex .argMax 0 S256 q reduces_S256x256_S256 (ix1 v) = BitVec.ofNat 32 w.val := by
  classical
  have hd (i : S256x256.Idx) : reduces_S256x256_S256.drop i = ix1 v ↔ i 1 = v := by
    have e : (reduces_S256x256_S256.drop i 0).val = (i 1).val :=
      Shape.Reduces.drop_apply_val_of_eq reduces_S256x256_S256 i 0 1
    constructor
    · intro h
      exact Fin.ext (e.symm.trans (congrArg (fun j : S256.Idx => (j 0).val) h))
    · intro h
      funext a
      match a with
      | ⟨0, _⟩ => exact Fin.ext (e.trans (congrArg Fin.val h))
  have hi (i : S256x256.Idx) : i = ix2 (i 0) (i 1) := by
    funext a
    match a with
    | ⟨0, _⟩ => rfl
    | ⟨1, _⟩ => rfl
  have hq' (i : S256x256.Idx) : q i = ((r (i 0) (i 1) : ℝ) : EReal) := (congrArg q (hi i)).trans (hq (i 0) (i 1))
  have hmem (i : S256x256.Idx) : (i 1 = v ∧ ∀ i' : S256x256.Idx, i' 1 = v → ¬ q i < q i') ↔ i 1 = v ∧ r (i 0) v = r w v := by
    refine and_congr_right fun h1 => ?_
    have qi : q i = ((r (i 0) v : ℝ) : EReal) := (hq' i).trans (congrArg (fun c => ((r (i 0) c : ℝ) : EReal)) h1)
    constructor
    · intro h
      have := h (ix2 w v) rfl
      rw [qi, hq, EReal.coe_lt_coe_iff] at this
      exact le_antisymm (hw.1 _) (not_lt.1 this)
    · intro h i' h1'
      have qi' : q i' = ((r (i' 0) v : ℝ) : EReal) := (hq' i').trans (congrArg (fun c => ((r (i' 0) c : ℝ) : EReal)) h1')
      rw [qi, qi', EReal.coe_lt_coe_iff, h]
      exact not_lt.2 (hw.1 _)
  show BitVec.ofNat 32 (Option.getD (Finset.min (Finset.image (fun i : S256x256.Idx => (i 0).val) _)) 0) = _
  have hmin : Finset.min (Finset.image (fun i : S256x256.Idx => (i 0).val)
      (Finset.univ.filter fun i : S256x256.Idx => i 1 = v ∧ r (i 0) v = r w v)) = ((w.val : ℕ) : WithTop ℕ) := by
    refine le_antisymm (Finset.min_le (Finset.mem_image.2 ⟨ix2 w v, Finset.mem_filter.2 ⟨Finset.mem_univ _, rfl, rfl⟩, rfl⟩)) (Finset.le_min fun n hn => ?_)
    obtain ⟨i, hm, rfl⟩ := Finset.mem_image.1 hn
    exact WithTop.coe_le_coe.2 (hw.2 _ (Finset.mem_filter.1 hm).2.2)
  refine congrArg (BitVec.ofNat 32) ?_
  refine Eq.trans (congrArg (fun o : WithTop ℕ => Option.getD o 0) (Eq.trans ?_ hmin)) rfl
  refine congrArg (fun s => Finset.min (Finset.image (fun i : S256x256.Idx => (i 0).val) s)) ?_
  ext i
  simp only [Finset.mem_filter, Finset.mem_univ, true_and, hd, if_pos]
  exact hmem i

theorem place_real (q : FVec Ideal S256x256 .f32) (r : Fin 256 → Fin 256 → ℝ)
    (hq : ∀ u v, q (ix2 u v) = ((r u v : ℝ) : EReal)) (y x : Fin 256) (h : First r y x) :
    place q (ix2 (0 : Fin 1) (0 : Fin 1)) = (((256 * y.val + x.val : ℕ) : ℝ) : EReal) := by
  choose w hw using exists_firstIn r
  have hi v := reduceIndex_col q r hq v (w v) (hw v)
  pointwise [place, colPlace, colMax, xi]
  simp only [hi, hq]
  have hc (v : Fin 256) : Finset.fold max ⊥ (fun u => ((r u v : ℝ) : EReal)) Finset.univ = ((r (w v) v : ℝ) : EReal) := by
    show Finset.sup Finset.univ _ = _
    exact le_antisymm (Finset.sup_le fun u _ => EReal.coe_le_coe_iff.2 ((hw v).1 u)) (Finset.le_sup (f := fun u => ((r u v : ℝ) : EReal)) (Finset.mem_univ (w v)))
  have hM : Finset.fold max ⊥ (fun v => ((r (w v) v : ℝ) : EReal)) Finset.univ = ((r y x : ℝ) : EReal) := by
    show Finset.sup Finset.univ _ = _
    refine le_antisymm (Finset.sup_le fun v _ => EReal.coe_le_coe_iff.2 (h.1 _ _)) ?_
    exact le_trans (EReal.coe_le_coe_iff.2 ((hw x).1 y))
      (Finset.le_sup (f := fun v => ((r (w v) v : ℝ) : EReal)) (Finset.mem_univ x))
  have hs (n : Fin 256) : (FloatOps.sitofp .f32 (BitVec.ofNat 32 n.val) : Ideal .f32) = (((n.val : ℝ)) : EReal) :=
    sitofp_ofNat _ (by omega)
  have hwx : w x = y := by
    have e : r (w x) x = r y x := le_antisymm (h.1 _ _) ((hw x).1 y)
    have := h.2 _ _ e
    have := (hw x).2 y e.symm
    exact Fin.ext (by omega)
  simp only [lit_bot, lit_top, hc, hM, hs, lit_256, lit_1e9, ← EReal.coe_mul, ← EReal.coe_add, EReal.coe_eq_coe_iff]
  show Finset.inf Finset.univ _ = _
  refine le_antisymm (le_trans (Finset.inf_le (Finset.mem_univ x)) ?_) (Finset.le_inf fun v _ => ?_)
  · rw [hwx, if_pos rfl, EReal.coe_le_coe_iff]
    push_cast
    linarith
  · split
    · next e =>
      have := h.2 _ _ e
      rw [EReal.coe_le_coe_iff]
      have : ((256 * y.val + x.val : ℕ) : ℝ) ≤ ((256 * (w v).val + v.val : ℕ) : ℝ) := by exact_mod_cast this
      push_cast at this ⊢
      linarith
    · rw [EReal.coe_le_coe_iff]
      have : 256 * y.val + x.val ≤ 1000000000 := by omega
      exact_mod_cast this

end Cert.Plane
-- ==== Proof.KVal.lean ====
module

public import proofs.«01_k».proof.Proof.Plane
public import proofs.«01_k».proof.Proof.Argmax

@[expose] public section

noncomputable section

namespace Cert.Plane

open Idealize.ShloMosaic Idealize.ShloMosaic.Tactic Idealize.SL.Sem
open Cert.KernelIdeal Cert.KernelIdeal.Gen Cert.Gauss

/-- One axis's taps are those of the real Gaussian. -/
theorem taps_at (x : ℝ) (v : Fin 256) : taps (F := Ideal) (x : EReal) (ix2 (0 : Fin 1) v) = ((tap x v.val : ℝ) : EReal) := by
  have hv : v.val < 2 ^ 31 := by omega
  pointwise [taps, bell, xi]
  rw [floor_coe, sitofp_ofNat _ hv, lit_neg15, lit_15, lit_neg8th, lit_nrm]
  simp only [← EReal.coe_one, ← EReal.coe_zero, ← EReal.coe_sub, ← EReal.coe_mul, Ideal.exp_coe,
    EReal.coe_le_coe_iff, select_and, ← EReal.coe_add]
  unfold tap Gauss.bell
  have e (d : ℝ) : d * d * -(1 / 8) = -(d * d) / 8 := by ring
  simp only [mul_ite, mul_zero, e]

/-- A cell of the target heatmap. -/
theorem heat_ix (tx ty : Ideal .f32) (u v : Fin 256) :
    heat tx ty (ix2 u v) = taps ty (ix2 (0 : Fin 1) u) * taps tx (ix2 (0 : Fin 1) v) := by
  unfold heat
  generalize taps ty = a
  generalize taps tx = b
  pointwise [row8]
  rw [Fin.sum_univ_eight]
  simp [Scalar.select, IntOp.cmpi]

theorem heat_real (x y : ℝ) (u v : Fin 256) :
    heat (F := Ideal) (x : EReal) (y : EReal) (ix2 u v) = ((tap y u.val * tap x v.val : ℝ) : EReal) := by
  rw [heat_ix, taps_at, taps_at, EReal.coe_mul]

/-- The loss of a plane of real predictions is the sum of the squared differences. -/
theorem sqLoss_real (x y : ℝ) (q : FVec Ideal S256x256 .f32) (r : Fin 256 → Fin 256 → ℝ)
    (hq : ∀ u v, q (ix2 u v) = ((r u v : ℝ) : EReal)) :
    sqLoss (F := Ideal) (x : EReal) (y : EReal) q (ix2 (0 : Fin 1) (0 : Fin 1))
      = ((∑ u : Fin 256, ∑ v : Fin 256, (tap y u.val * tap x v.val - r u v) * (tap y u.val * tap x v.val - r u v) : ℝ) : EReal) := by
  have hx := taps_at x
  have hy := taps_at y
  rw [← square_expand (fun u => tap y u.val) (fun v => tap x v.val) r]
  unfold sqLoss
  revert hx hy
  generalize taps (F := Ideal) (y : EReal) = a
  generalize taps (F := Ideal) (x : EReal) = b
  intro hx hy
  pointwise [row8, rowSum]
  simp only [hx, hy, hq, lit_2, lit_bot]
  rw [show (Finset.univ : Finset (Fin 1)) = {0} from rfl, Finset.fold_singleton]
  simp only [← EReal.coe_mul, sum_coe, max_bot_right, ← EReal.coe_sub, ← EReal.coe_add]

end Cert.Plane
-- ==== Proof.KJoint.lean ====
module

public import proofs.«01_k».proof.Proof.Plane
public import proofs.«01_k».proof.Proof.KVal

@[expose] public section

noncomputable section

namespace Cert.Plane

open Idealize.ShloMosaic Idealize.ShloMosaic.Tactic Idealize.SL.Sem
open Cert.KernelIdeal Cert.KernelIdeal.Gen Cert.Gauss

/-- The distance between two places. -/
def dist (x y tx ty : EReal) : EReal := Ideal.sqrt ((x - tx) * (x - tx) + (y - ty) * (y - ty))

section Cell

variable (e f : FVec Ideal S1x1 .f32) (i : S1x1.Idx)

theorem floor_cell (o : ℝ) (h : e i = (o : EReal)) :
    floor (mulf e (broadcast S1x1 (Scalar.ofBits .f32 0x3B800000#32))) i = ((⌊o * (1 / 256)⌋ : ℝ) : EReal) := by
  show Ideal.liftRound Int.floor ((show EReal from e i) * Ideal.ofBits .f32 0x3B800000#32) = _
  rw [h, lit_256th, ← EReal.coe_mul]
  rfl

theorem rest_cell (o p : ℝ) (h : e i = (o : EReal)) (h' : f i = (p : EReal)) :
    subf e (mulf f (broadcast S1x1 (Scalar.ofBits .f32 0x43800000#32))) i = ((o - p * 256 : ℝ) : EReal) := by
  show (show EReal from e i) - (show EReal from f i) * Ideal.ofBits .f32 0x43800000#32 = _
  rw [h, h', lit_256, ← EReal.coe_mul, ← EReal.coe_sub]

theorem dist_cell (o p : ℝ) (h : e i = (o : EReal)) (h' : f i = (p : EReal)) (tx ty : EReal) :
    sqrt (addf (mulf (subf e (broadcast (α := Ideal .f32) S1x1 tx)) (subf e (broadcast (α := Ideal .f32) S1x1 tx)))
      (mulf (subf f (broadcast (α := Ideal .f32) S1x1 ty)) (subf f (broadcast (α := Ideal .f32) S1x1 ty)))) i = dist o p tx ty := by
  show Ideal.sqrt (((show EReal from e i) - tx) * ((show EReal from e i) - tx)
    + ((show EReal from f i) - ty) * ((show EReal from f i) - ty)) = _
  rw [h, h', dist]

end Cell

section Joint

variable (q : FVec Ideal S256x256 .f32) (r : Fin 256 → Fin 256 → ℝ) (hq : ∀ u v, q (ix2 u v) = ((r u v : ℝ) : EReal))
  (y x : Fin 256) (h : First r y x) (tx ty : EReal)

theorem row_of_flat (y x : Fin 256) : ⌊((256 * y.val + x.val : ℕ) : ℝ) * (1 / 256)⌋ = (y.val : ℤ) := by
  rw [Int.floor_eq_iff]
  have : (x.val : ℝ) < 256 := by exact_mod_cast x.isLt
  have : (0 : ℝ) ≤ x.val := Nat.cast_nonneg _
  push_cast
  constructor <;> linarith

include hq h in
theorem yPred_real : yPred q (ix2 (0 : Fin 1) (0 : Fin 1)) = ((y.val : ℝ) : EReal) := by
  unfold yPred
  rw [floor_cell _ _ _ (place_real q r hq y x h), row_of_flat]
  norm_cast

include hq h in
theorem xPred_real : xPred q (ix2 (0 : Fin 1) (0 : Fin 1)) = ((x.val : ℝ) : EReal) := by
  unfold xPred
  rw [rest_cell _ _ _ _ _ (place_real q r hq y x h) (yPred_real q r hq y x h)]
  congr 1
  push_cast
  ring

include hq h in
theorem err_real : err (F := Ideal) tx ty q (ix2 (0 : Fin 1) (0 : Fin 1)) = dist ((x.val : ℝ) : EReal) ((y.val : ℝ) : EReal) tx ty := by
  unfold err
  rw [dist_cell _ _ _ _ _ (xPred_real q r hq y x h) (yPred_real q r hq y x h)]

end Joint

end Cert.Plane
-- ==== Proof.RefArg.lean ====
module

public import proofs.«01_k».proof.Proof.RefHeat
public import proofs.«01_k».proof.Proof.KJoint

/-! # The reference's joints: the first place of each plane's maximum -/

@[expose] public section

noncomputable section

namespace Cert.Ref

open Idealize.ShloMosaic Idealize.ShloMosaic.Tactic Idealize.SL.Sem
open Cert.ReferenceIdeal Cert.ReferenceIdeal.Gen Cert.Gauss Cert.Plane
open Cert.ReferenceIdeal.Read

section Place

variable (x0 : FVec Ideal S32x13x256x256 .f32) (b : Fin 32) (k : Fin 13)

theorem v190_at (e : Fin 65536) :
    val_main_v190 (F := Ideal) x0 (ix3 b k e) = x0 (ix4 b k (⟨e.val / 256, by omega⟩ : Fin 256) (⟨e.val % 256, by omega⟩ : Fin 256)) := by
  unfold val_main_v190
  refine shapeCast_apply _ _ _ _ ?_
  rw [Shape.rowMajor_val_three, Shape.rowMajor_val_four]
  show ((b.val * 13 + k.val) * 256 + e.val / 256) * 256 + e.val % 256 = (b.val * 13 + k.val) * 65536 + e.val
  omega

/-- The smaller of two words that are numbers. -/
theorem minsi_ofNat (a b : ℕ) (ha : a < 2 ^ 31) (hb : b < 2 ^ 31) :
    IntOp.minsi (BitVec.ofNat 32 a) (BitVec.ofNat 32 b) = BitVec.ofNat 32 (min a b) := by
  have e : (BitVec.ofNat 32 a).slt (BitVec.ofNat 32 b) = decide (a < b) := by
    rw [BitVec.slt, toInt_ofNat _ ha, toInt_ofNat _ hb]
    simp
  unfold IntOp.minsi
  rw [e]
  by_cases h : a < b
  · simp [h, le_of_lt h]
  · simp [h, not_lt.1 h]

/-- The least of words that are numbers. -/
theorem fold_minsi {ι : Type} [DecidableEq ι] (s : Finset ι) (G : ι → ℕ) (hG : ∀ e, G e < 2 ^ 31) :
    s.fold IntOp.minsi 2147483647#32 (fun e => BitVec.ofNat 32 (G e)) = BitVec.ofNat 32 (s.fold min 2147483647 G)
      ∧ s.fold min 2147483647 G < 2 ^ 31 := by
  induction s using Finset.induction_on with
  | empty => exact ⟨rfl, by norm_num⟩
  | insert a s ha ih =>
    rw [Finset.fold_insert ha, Finset.fold_insert ha, ih.1, minsi_ofNat _ _ (hG a) ih.2]
    exact ⟨rfl, lt_of_le_of_lt (min_le_left _ _) (hG a)⟩

variable (r : Fin 256 → Fin 256 → ℝ) (hr : ∀ u v, x0 (ix4 b k u v) = ((r u v : ℝ) : EReal)) (y x : Fin 256) (h : First r y x)

include hr h in
theorem v198_at : val_main_v198 (F := Ideal) x0 (ix2 b k) = (((256 * y.val + x.val : ℕ) : ℝ) : EReal) := by
  classical
  have hq (e : Fin 65536) : val_main_v190 (F := Ideal) x0 (ix3 b k e)
      = ((r (⟨e.val / 256, by omega⟩ : Fin 256) (⟨e.val % 256, by omega⟩ : Fin 256) : ℝ) : EReal) := (v190_at x0 b k e).trans (hr _ _)
  have hc (e : Fin 65536) : val_main_call5_v1 (F := Ideal) (ix3 b k e) = BitVec.ofNat 32 65536 := rfl
  pointwise [val_main_v198, val_main_v197, val_main_v196, val_main_v195, val_main_v194, val_main_v193, val_main_v192, val_main_v191,
    val_main_cst_54, val_main_c_56]
  simp only [hq, hc, lit_bot]
  have top : Finset.fold max ⊥ (fun e : Fin 65536 => ((r (⟨e.val / 256, by omega⟩ : Fin 256) (⟨e.val % 256, by omega⟩ : Fin 256) : ℝ) : EReal))
      Finset.univ = ((r y x : ℝ) : EReal) := by
    show Finset.sup Finset.univ _ = _
    refine le_antisymm (Finset.sup_le fun e _ => EReal.coe_le_coe_iff.2 (h.1 _ _)) ?_
    refine le_trans (le_of_eq ?_) (Finset.le_sup (Finset.mem_univ (⟨256 * y.val + x.val, by omega⟩ : Fin 65536)))
    have ey : (⟨(256 * y.val + x.val) / 256, by omega⟩ : Fin 256) = y := Fin.ext (by show (256 * y.val + x.val) / 256 = y.val; omega)
    have ex : (⟨(256 * y.val + x.val) % 256, by omega⟩ : Fin 256) = x := Fin.ext (by show (256 * y.val + x.val) % 256 = x.val; omega)
    show _ = ((r (⟨(256 * y.val + x.val) / 256, _⟩ : Fin 256) (⟨(256 * y.val + x.val) % 256, _⟩ : Fin 256) : ℝ) : EReal)
    rw [ey, ex]
  rw [top]
  let G : Fin 65536 → ℕ := fun e => if r (⟨e.val / 256, by omega⟩ : Fin 256) (⟨e.val % 256, by omega⟩ : Fin 256) = r y x then e.val else 65536
  have hG e : G e < 2 ^ 31 := by
    show ite _ _ _ < _
    split <;> omega
  have hf : (fun e : Fin 65536 => if ((r (⟨e.val / 256, by omega⟩ : Fin 256) (⟨e.val % 256, by omega⟩ : Fin 256) : ℝ) : EReal) = ((r y x : ℝ) : EReal)
      then BitVec.ofNat 32 e.val else BitVec.ofNat 32 65536) = fun e => BitVec.ofNat 32 (G e) := by
    funext e
    simp only [EReal.coe_eq_coe_iff, G]
    split <;> rfl
  have hm : Finset.fold min 2147483647 G Finset.univ = 256 * y.val + x.val := by
    refine le_antisymm (Finset.fold_min_le _ |>.2 (Or.inr ⟨⟨256 * y.val + x.val, by omega⟩, Finset.mem_univ _, ?_⟩))
      (Finset.le_fold_min _ |>.2 ⟨by omega, fun e _ => ?_⟩)
    · have ey : (⟨(256 * y.val + x.val) / 256, by omega⟩ : Fin 256) = y := Fin.ext (by show (256 * y.val + x.val) / 256 = y.val; omega)
      have ex : (⟨(256 * y.val + x.val) % 256, by omega⟩ : Fin 256) = x := Fin.ext (by show (256 * y.val + x.val) % 256 = x.val; omega)
      show ite (r (⟨(256 * y.val + x.val) / 256, _⟩ : Fin 256) (⟨(256 * y.val + x.val) % 256, _⟩ : Fin 256) = r y x) _ _ ≤ _
      rw [ey, ex, if_pos rfl]
    · show _ ≤ ite _ _ _
      split
      · next e' =>
        have := h.2 _ _ e'
        have : 256 * y.val + x.val ≤ 256 * (e.val / 256) + e.val % 256 := this
        omega
      · omega
  refine Eq.trans (congrArg (FloatOps.sitofp .f32) ?_) (sitofp_ofNat (256 * y.val + x.val) (by omega))
  refine Eq.trans (congrArg (fun f => Finset.fold IntOp.minsi 2147483647#32 f Finset.univ) hf) ?_
  rw [(fold_minsi Finset.univ G hG).1, hm]

include hr h in
theorem v199_at : val_main_v199 (F := Ideal) x0 (ix2 b k) = ((x.val : ℝ) : EReal) := by
  have e := v198_at x0 b k r hr y x h
  revert e
  generalize hA : val_main_v198 (F := Ideal) x0 = A
  intro e
  have m : (FloatOps.sitofp .f32 (val_main_c_57 (F := Ideal) ix0) : Ideal .f32) = ((256 : ℝ) : EReal) := by
    refine (sitofp_ofNat 256 (by omega)).trans ?_
    norm_num
  have ht : Ideal.truncInt (((256 * y.val + x.val : ℕ) : ℝ) / 256) = (y.val : ℤ) := by
    have := row_of_flat y x
    rw [Ideal.truncInt, if_pos (by positivity), ← this]
    congr 1
    ring
  have hrem : Ideal.remf ((((256 * y.val + x.val : ℕ) : ℝ)) : EReal) ((256 : ℝ) : EReal) = ((x.val : ℝ) : EReal) := by
    rw [Ideal.remf_coe, if_neg (by norm_num), ht]
    congr 1
    push_cast
    ring
  pointwise [val_main_v199, val_main_call6_v0, val_main_call6_v1, val_main_call6_v2, val_main_call6_v3, val_main_call6_v4,
    val_main_call6_v5, val_main_call6_v6, val_main_call6_v7, val_main_call6_v8, val_main_call6_v9, val_main_call6_v10,
    val_main_call6_v11, val_main_call6_v12, val_main_call6_cst, val_main_call6_cst_0, val_main_call6_cst_1, hA]
  rw [m, e, hrem]
  have h0 : ¬ ((x.val : ℝ) : EReal) < 0 := not_lt.2 (EReal.coe_nonneg.2 (Nat.cast_nonneg _))
  have h1 : ¬ ((256 : ℝ) : EReal) < 0 := not_lt.2 (EReal.coe_nonneg.2 (by norm_num))
  rw [decide_eq_false h0, decide_eq_false h1]
  have ht (t : BitVec 1) : IntOp.andi (IntOp.cmpi CmpIPredicate.ne (BitVec.ofBool false) (BitVec.ofBool false)) t = 0#1 := by
    revert t
    decide
  rw [ht]
  rfl

include hr h in
theorem v202_at : val_main_v202 (F := Ideal) x0 (ix2 b k) = ((y.val : ℝ) : EReal) := by
  have e := v198_at x0 b k r hr y x h
  revert e
  generalize hA : val_main_v198 (F := Ideal) x0 = A
  intro e
  pointwise [val_main_v202, val_main_v201, val_main_v200, val_main_cst_58, hA]
  rw [e, lit_256, Ideal.div_coe (by norm_num), ← EReal.coe_mul]
  show ((⌊_⌋ : ℝ) : EReal) = _
  rw [row_of_flat]
  norm_cast

variable (x1 : FVec Ideal S32x13x3 .f32) (x2 : FVec Ideal S32 .f32)

theorem v205_x :
    val_main_v205 (F := Ideal) x0 (ix3 b k (0 : Fin 2)) = val_main_v199 (F := Ideal) x0 (ix2 b k) := by
  pointwise [val_main_v205, val_main_v203, val_main_v204]

theorem v205_y :
    val_main_v205 (F := Ideal) x0 (ix3 b k (1 : Fin 2)) = val_main_v202 (F := Ideal) x0 (ix2 b k) := by
  pointwise [val_main_v205, val_main_v203, val_main_v204]

include hr h in
theorem v212_at : val_main_v212 (F := Ideal) x0 x1 (ix2 b k)
    = dist ((x.val : ℝ) : EReal) ((y.val : ℝ) : EReal) (x1 (ix3 b k (0 : Fin 3))) (x1 (ix3 b k (1 : Fin 3))) := by
  have ex := (v205_x x0 b k).trans (v199_at x0 b k r hr y x h)
  have ey := (v205_y x0 b k).trans (v202_at x0 b k r hr y x h)
  revert ex ey
  generalize hA : val_main_v205 (F := Ideal) x0 = A
  intro ex ey
  pointwise [val_main_v212, val_main_v211, val_main_v210, val_main_v209, val_main_v208, val_main_cst_59, hA]
  rw [Fin.sum_univ_two, ex, ey]
  rfl

end Place

section Sums

variable (x0 : FVec Ideal S32x13x256x256 .f32) (x1 : FVec Ideal S32x13x3 .f32) (x2 : FVec Ideal S32 .f32)

theorem v217_at (i : S_.Idx) : val_main_v217 (F := Ideal) x0 x1 i
    = Ideal.div (∑ b : Fin 32, ∑ k : Fin 13, (val_main_v212 (F := Ideal) x0 x1 (ix2 b k) : EReal) * x1 (ix3 b k (2 : Fin 3)))
      (Ideal.ofBits .f32 0x3A83126F#32 + ∑ b : Fin 32, ∑ k : Fin 13, (x1 (ix3 b k (2 : Fin 3)) : EReal)) := by
  generalize hA : val_main_v212 (F := Ideal) x0 x1 = A
  pointwise [val_main_v217, val_main_v216, val_main_v215, val_main_v214, val_main_v213, val_main_v207, val_main_v206, val_main_cst_60,
    val_main_cst_61, val_main_cst_62, hA]

theorem v228_at (i : S_.Idx) : val_main_v228 (F := Ideal) x0 x1 x2 i
    = Ideal.div (∑ b : Fin 32, ∑ k : Fin 13,
        (if (val_main_v212 (F := Ideal) x0 x1 (ix2 b k) : EReal) ≤ (x2 (ix1 b) : EReal) * Ideal.ofBits .f32 0x3F000000#32 then (1 : EReal) else 0)
          * x1 (ix3 b k (2 : Fin 3)))
      (Ideal.ofBits .f32 0x3A83126F#32 + ∑ b : Fin 32, ∑ k : Fin 13, (x1 (ix3 b k (2 : Fin 3)) : EReal)) := by
  have hb (p : Prop) [Decidable p] : (FloatOps.uitofp .f32 (BitVec.ofBool (decide p)) : Ideal .f32) = (if p then (1 : EReal) else 0) := by
    by_cases hp : p
    · rw [if_pos hp, decide_eq_true hp]
      show (((1 : ℕ) : ℝ) : EReal) = 1
      simp
    · rw [if_neg hp, decide_eq_false hp]
      show (((0 : ℕ) : ℝ) : EReal) = 0
      simp
  generalize hA : val_main_v212 (F := Ideal) x0 x1 = A
  pointwise [val_main_v228, val_main_v227, val_main_v226, val_main_v225, val_main_v224, val_main_v223, val_main_v222, val_main_v221,
    val_main_v220, val_main_v219, val_main_v218, val_main_v207, val_main_v206, val_main_cst_63, val_main_cst_64, val_main_cst_65,
    val_main_cst_66, hA]
  simp only [hb]

theorem v231_at (b : Fin 32) (k : Fin 13) (e : Fin 65536) : (val_main_v231 (F := Ideal) x0 x1 (ix3 b k e) : EReal)
    = ((val_main_v189 (F := Ideal) x1 (ix4 b k (⟨e.val / 256, by omega⟩ : Fin 256) (⟨e.val % 256, by omega⟩ : Fin 256)) : EReal)
        - x0 (ix4 b k (⟨e.val / 256, by omega⟩ : Fin 256) (⟨e.val % 256, by omega⟩ : Fin 256)))
      * ((val_main_v189 (F := Ideal) x1 (ix4 b k (⟨e.val / 256, by omega⟩ : Fin 256) (⟨e.val % 256, by omega⟩ : Fin 256)) : EReal)
        - x0 (ix4 b k (⟨e.val / 256, by omega⟩ : Fin 256) (⟨e.val % 256, by omega⟩ : Fin 256))) := by
  unfold val_main_v231
  refine (shapeCast_apply _ _ _ (ix4 b k (⟨e.val / 256, by omega⟩ : Fin 256) (⟨e.val % 256, by omega⟩ : Fin 256)) ?_).trans ?_
  · rw [Shape.rowMajor_val_three, Shape.rowMajor_val_four]
    show ((b.val * 13 + k.val) * 256 + e.val / 256) * 256 + e.val % 256 = (b.val * 13 + k.val) * 65536 + e.val
    omega
  · generalize hA : val_main_v189 (F := Ideal) x1 = A
    pointwise [val_main_v230, val_main_v229, hA]

/-- A sum over the flat plane is the sum over its rows and columns. -/
theorem sum_flat (g : Fin 256 → Fin 256 → ℝ) :
    ∑ e : Fin 65536, g (⟨e.val / 256, by omega⟩ : Fin 256) (⟨e.val % 256, by omega⟩ : Fin 256) = ∑ u, ∑ v, g u v := by
  rw [← Fintype.sum_prod_type']
  refine Fintype.sum_bijective (fun e : Fin 65536 => ((⟨e.val / 256, by omega⟩, ⟨e.val % 256, by omega⟩) : Fin 256 × Fin 256))
    ⟨fun e f h => ?_, fun p => ⟨⟨256 * p.1.val + p.2.val, by omega⟩, ?_⟩⟩ _ _ fun e => rfl
  · have h1 := congrArg (fun p : Fin 256 × Fin 256 => p.1.val) h
    have h2 := congrArg (fun p : Fin 256 × Fin 256 => p.2.val) h
    apply Fin.ext
    simp only at h1 h2
    omega
  · refine Prod.ext (Fin.ext ?_) (Fin.ext ?_)
    · show (256 * p.1.val + p.2.val) / 256 = p.1.val
      omega
    · show (256 * p.1.val + p.2.val) % 256 = p.2.val
      omega

/-- A joint's sum of squares, row by row. -/
theorem plane_sum (A : Fin 65536 → EReal) (g : Fin 256 → Fin 256 → ℝ)
    (h : ∀ e : Fin 65536, A e = ((g (⟨e.val / 256, by omega⟩ : Fin 256) (⟨e.val % 256, by omega⟩ : Fin 256) : ℝ) : EReal)) :
    ∑ e, A e = ((∑ u, ∑ v, g u v : ℝ) : EReal) := by
  rw [← sum_flat g, ← sum_coe]
  exact Finset.sum_congr rfl fun e _ => h e

theorem v234_at (i : S_.Idx) (t r : Fin 32 → Fin 13 → Fin 256 → Fin 256 → ℝ)
    (ht : ∀ b k u v, val_main_v189 (F := Ideal) x1 (ix4 b k u v) = ((t b k u v : ℝ) : EReal))
    (hr : ∀ b k u v, x0 (ix4 b k u v) = ((r b k u v : ℝ) : EReal)) :
    val_main_v234 (F := Ideal) x0 x1 i
      = Ideal.div (∑ b : Fin 32, ∑ k : Fin 13,
          ((∑ u, ∑ v, (t b k u v - r b k u v) * (t b k u v - r b k u v) : ℝ) : EReal)) (Ideal.ofBits .f32 0x43D00000#32) := by
  have e (b : Fin 32) (k : Fin 13) : ∑ e : Fin 65536, (val_main_v231 (F := Ideal) x0 x1 (ix3 b k e) : EReal)
      = ((∑ u, ∑ v, (t b k u v - r b k u v) * (t b k u v - r b k u v) : ℝ) : EReal) := by
    refine plane_sum _ (fun u v => (t b k u v - r b k u v) * (t b k u v - r b k u v)) fun e => ?_
    rw [v231_at, ht, hr, ← EReal.coe_sub, ← EReal.coe_mul]
  revert e
  generalize hA : val_main_v231 (F := Ideal) x0 x1 = A
  intro e
  pointwise [val_main_v234, val_main_v233, val_main_v232, val_main_cst_67, val_main_cst_68, val_main_cst_69, hA]
  simp only [e]

end Sums

end Cert.Ref
-- ==== Proof.Steps.lean ====
module

public import proofs.«01_k».proof.Proof.Plane

/-! # What the body stores

In each of its three cases the body's stores are the 52 planes' heatmaps and statistics of the module
`Plane`, and the carried sums plus the 52 planes' shares. -/

@[expose] public section

noncomputable section

namespace Cert.Plane

open Idealize.ShloMosaic Idealize.ShloMosaic.Tactic Idealize.SL.Sem
open Cert.KernelIdeal Cert.KernelIdeal.Gen

variable {F : FTy → Type} [FloatOps F]

/-- The four running sums as the three results' lanes. -/
def finBlk (a : FVec F S4x128 .f32) : FVec F S1x1x128 .f32 :=
  shapeCast S1x1x128
    (select (cmpi .eq li (broadcast S1x128 0#32))
      (divf (extractStridedSlice S1x128 ![0, 0] a slices_S4x128_o0_0_S1x128)
        (broadcast S1x128 (Scalar.ofBits .f32 0x43D00000#32)))
      (select (cmpi .eq li (broadcast S1x128 1#32))
        (divf (extractStridedSlice S1x128 ![2, 0] a slices_S4x128_o2_0_S1x128)
          (addf (broadcast S1x128 (Scalar.ofBits .f32 0x3A83126F#32))
            (extractStridedSlice S1x128 ![1, 0] a slices_S4x128_o1_0_S1x128)))
        (select (cmpi .eq li (broadcast S1x128 2#32))
          (divf (extractStridedSlice S1x128 ![3, 0] a slices_S4x128_o3_0_S1x128)
            (addf (broadcast S1x128 (Scalar.ofBits .f32 0x3A83126F#32))
              (extractStridedSlice S1x128 ![1, 0] a slices_S4x128_o1_0_S1x128)))
          (broadcast S1x128 (Scalar.ofBits .f32 0x00000000#32)))))
    shapeCasts_S1x128_S1x1x128

section

variable (c : Dev nD) (i : grid0.Coords) (arg1 : Memref sig .tc .smem S416x3 .f32) (harg1 : arg1.IsWhole)
  (arg2 : Memref sig .tc .smem S32 .f32) (harg2 : arg2.IsWhole)
  (arg3 : Memref sig .tc .vmem S26x256x256 .f32) (harg3 : arg3.IsWhole)
  (arg4 : Memref sig .tc .vmem S26x256x256 .f32) (harg4 : arg4.IsWhole)
  (arg5 : Memref sig .tc .vmem S52x256x256 .f32) (harg5 : arg5.IsWhole)
  (arg6 : Memref sig .tc .vmem S52x1x128 .f32) (harg6 : arg6.IsWhole)
  (arg7 : Memref sig .tc .vmem S1x1x128 .f32) (harg7 : arg7.IsWhole)
  (arg8 : Memref sig .tc .vmem S4x128 .f32) (harg8 : arg8.IsWhole)
  (x0 : Vec F S416x3 .f32) (x1 : Vec F S32 .f32) (x2 x3 : Vec F S26x256x256 .f32)

/-- The step's heatmap stores. -/
def heatL : List (View.Piece (Elt F) S52x256x256 .f32) :=
  heatPieces (ldX i arg1 harg1 x0) (ldY i arg1 harg1 x0) 52 le_rfl

/-- The step's statistics stores. -/
def statsL : List (View.Piece (Elt F) S52x1x128 .f32) :=
  statsPieces (ldX i arg1 harg1 x0) (ldY i arg1 harg1 x0) (ldQ arg3 harg3 arg4 harg4 x2 x3) 52 le_rfl

/-- The step's share of the four sums, on top of `a`, as one whole store. -/
def sumPiece (a : Vec F S4x128 .f32) : View.Piece (Elt F) S4x128 .f32 :=
  ⟨Rect.unit ![0, 0] S4x128.size inb_S4x128_S4x128_0_0,
    shapeCast S4x128
      (addf a (sums (ldX i arg1 harg1 x0) (ldY i arg1 harg1 x0) (ldV i arg1 harg1 x0) (ldT i arg2 harg2 x1)
        (ldQ arg3 harg3 arg4 harg4 x2 x3) 52 le_rfl))
      shapeCasts_S4x128_S4x128⟩

/-- The first step's zeroing of the sums. -/
def zeroL : List (View.Piece (Elt F) S4x128 .f32) :=
  [⟨Rect.unit ![0, 0] S4x128.size inb_S4x128_S4x128_0_0,
    shapeCast S4x128 (broadcast S4x128 (Scalar.ofBits .f32 0x00000000#32)) shapeCasts_S4x128_S4x128⟩]

section A

variable (hc0 : cond0_0 i) (hc1 : ¬ cond0_1 i)

theorem heat_A : (kernelRun0_A c i arg1 harg1 arg2 harg2 arg3 harg3 arg4 harg4 arg5 harg5 arg6 harg6 arg7 harg7 arg8
      harg8 hc0 hc1 x0 x1 x2 x3).1 = heatL i arg1 harg1 x0 := by
  sl_kernel_rfl

theorem stats_A : (kernelRun0_A c i arg1 harg1 arg2 harg2 arg3 harg3 arg4 harg4 arg5 harg5 arg6 harg6 arg7 harg7 arg8
      harg8 hc0 hc1 x0 x1 x2 x3).2.1 = statsL i arg1 harg1 arg3 harg3 arg4 harg4 x0 x2 x3 := by
  sl_kernel_rfl

theorem sum_A : (kernelRun0_A c i arg1 harg1 arg2 harg2 arg3 harg3 arg4 harg4 arg5 harg5 arg6 harg6 arg7 harg7 arg8
      harg8 hc0 hc1 x0 x1 x2 x3).2.2.2.1
    = sumPiece i arg1 harg1 arg2 harg2 arg3 harg3 arg4 harg4 x0 x1 x2 x3
        (arg8.view.readCov zeroL (Rect.unit ![0, 0] S4x128.size inb_S4x128_S4x128_0_0).toLoadRect) :: zeroL := by
  sl_kernel_rfl

end A

section B

variable (hc0 : ¬ cond0_0 i) (hc1 : ¬ cond0_1 i) (xs0 : Vec F S4x128 .f32)

theorem heat_B : (kernelRun0_B c i arg1 harg1 arg2 harg2 arg3 harg3 arg4 harg4 arg5 harg5 arg6 harg6 arg7 harg7 arg8
      harg8 hc0 hc1 x0 x1 x2 x3 xs0).1 = heatL i arg1 harg1 x0 := by
  sl_kernel_rfl

theorem stats_B : (kernelRun0_B c i arg1 harg1 arg2 harg2 arg3 harg3 arg4 harg4 arg5 harg5 arg6 harg6 arg7 harg7 arg8
      harg8 hc0 hc1 x0 x1 x2 x3 xs0).2.1 = statsL i arg1 harg1 arg3 harg3 arg4 harg4 x0 x2 x3 := by
  sl_kernel_rfl

theorem sum_B : (kernelRun0_B c i arg1 harg1 arg2 harg2 arg3 harg3 arg4 harg4 arg5 harg5 arg6 harg6 arg7 harg7 arg8
      harg8 hc0 hc1 x0 x1 x2 x3 xs0).2.2.2.1
    = [sumPiece i arg1 harg1 arg2 harg2 arg3 harg3 arg4 harg4 x0 x1 x2 x3
        (View.readAt (Elt F) arg8.view (Rect.unit (s := S4x128) ![0, 0] S4x128.size inb_S4x128_S4x128_0_0).toLoadRect
          (harg8.unread xs0))] := by
  sl_kernel_rfl

end B

section C

variable (hc0 : ¬ cond0_0 i) (hc1 : cond0_1 i) (xs0 : Vec F S4x128 .f32)

theorem heat_C : (kernelRun0_C c i arg1 harg1 arg2 harg2 arg3 harg3 arg4 harg4 arg5 harg5 arg6 harg6 arg7 harg7 arg8
      harg8 hc0 hc1 x0 x1 x2 x3 xs0).1 = heatL i arg1 harg1 x0 := by
  sl_kernel_rfl

theorem stats_C : (kernelRun0_C c i arg1 harg1 arg2 harg2 arg3 harg3 arg4 harg4 arg5 harg5 arg6 harg6 arg7 harg7 arg8
      harg8 hc0 hc1 x0 x1 x2 x3 xs0).2.1 = statsL i arg1 harg1 arg3 harg3 arg4 harg4 x0 x2 x3 := by
  sl_kernel_rfl

theorem sum_C : (kernelRun0_C c i arg1 harg1 arg2 harg2 arg3 harg3 arg4 harg4 arg5 harg5 arg6 harg6 arg7 harg7 arg8
      harg8 hc0 hc1 x0 x1 x2 x3 xs0).2.2.2.1
    = [sumPiece i arg1 harg1 arg2 harg2 arg3 harg3 arg4 harg4 x0 x1 x2 x3
        (View.readAt (Elt F) arg8.view (Rect.unit (s := S4x128) ![0, 0] S4x128.size inb_S4x128_S4x128_0_0).toLoadRect
          (harg8.unread xs0))] := by
  sl_kernel_rfl

theorem fin_C : (kernelRun0_C c i arg1 harg1 arg2 harg2 arg3 harg3 arg4 harg4 arg5 harg5 arg6 harg6 arg7 harg7 arg8
      harg8 hc0 hc1 x0 x1 x2 x3 xs0).2.2.1
    = [⟨Rect.unit ![0, 0, 0] S1x1x128.size inb_S1x1x128_S1x1x128_0_0_0,
        finBlk (arg8.view.readCov
          [sumPiece i arg1 harg1 arg2 harg2 arg3 harg3 arg4 harg4 x0 x1 x2 x3
            (View.readAt (Elt F) arg8.view (Rect.unit (s := S4x128) ![0, 0] S4x128.size inb_S4x128_S4x128_0_0).toLoadRect
              (harg8.unread xs0))]
          (Rect.unit ![0, 0] S4x128.size inb_S4x128_S4x128_0_0).toLoadRect)⟩] := by
  sl_kernel_rfl

end C

end

end Cert.Plane
-- ==== Proof.Blocks.lean ====
module

public import proofs.«01_k».proof.Proof.Steps
public import Idealize.ShloMosaic.Lib.WholeRead
public import Idealize.ShloMosaic.Lib.Pipeline.ValueKit

/-! # The blocks by plane number

The body's loads at step `t` are the target words, thresholds and predictions of the planes `52 t … 52 t + 51`. -/

@[expose] public section

noncomputable section

namespace Cert.Plane

open Idealize.ShloMosaic Idealize.ShloMosaic.Tactic Idealize.SL.Sem
open Cert.KernelIdeal Cert.KernelIdeal.Gen

variable {F : FTy → Type} [FloatOps F]

variable (m : (ℓ : Loc nD τ sig) → Buf (Elt F) ℓ) (c : Dev nD)

/-- A plane's target column. -/
def tX (p : Fin 416) : F .f32 := V m c main_v1 (ix2 p (0 : Fin 3))

/-- A plane's target row. -/
def tY (p : Fin 416) : F .f32 := V m c main_v1 (ix2 p (1 : Fin 3))

/-- A plane's visibility. -/
def tV (p : Fin 416) : F .f32 := V m c main_v1 (ix2 p (2 : Fin 3))

/-- A plane's threshold: half the head size of its sample. -/
def tT (p : Fin 416) : F .f32 :=
  Scalar.mulf (V m c main_arg2 (ix1 (⟨p.val / 13, by omega⟩ : Fin 32))) (Scalar.ofBits .f32 0x3F000000#32)

/-- A plane's predictions. -/
def tQ (p : Fin 416) : FVec F S256x256 .f32 := fun j => V m c main_v0 (ix3 p (j 0) (j 1))

theorem coords_val : ∀ t : Fin cfg0.N, (grid0.coords t 0).val = t.val := by decide +kernel

theorem off4_eq : ∀ (t : Fin cfg0.N) (g : Fin 52),
    k0_off4 (grid0.coords t) (BitVec.ofNat 32 g.val) 0 = (52 * t.val + g.val) / 13 := by decide +kernel

/-- Plane `g` of step `t`. -/
def pn (t : Fin cfg0.N) (g : Fin 52) : Fin 416 :=
  ⟨52 * t.val + g.val, by have := t.isLt; have h : cfg0.N = 8 := N_0; omega⟩

theorem idx0 : ∀ t : Fin cfg0.N, (cfg0.win 0).index t = ![0, 0] := (by decide +kernel : ∀ t : Fin grid0.N, _)
theorem idx1 : ∀ t : Fin cfg0.N, (cfg0.win 1).index t = ![0] := (by decide +kernel : ∀ t : Fin grid0.N, _)
theorem idx2 : ∀ t : Fin cfg0.N, (cfg0.win 2).index t = ![2 * t.val, 0, 0] := (by decide +kernel : ∀ t : Fin grid0.N, _)
theorem idx3 : ∀ t : Fin cfg0.N, (cfg0.win 3).index t = ![2 * t.val + 1, 0, 0] := (by decide +kernel : ∀ t : Fin grid0.N, _)
theorem idx4 : ∀ t : Fin cfg0.N, (cfg0.win 4).index t = ![t.val, 0, 0] := (by decide +kernel : ∀ t : Fin grid0.N, _)
theorem idx5 : ∀ t : Fin cfg0.N, (cfg0.win 5).index t = ![t.val, 0, 0] := (by decide +kernel : ∀ t : Fin grid0.N, _)
theorem idx6 : ∀ t : Fin cfg0.N, (cfg0.win 6).index t = ![0, 0, 0] := (by decide +kernel : ∀ t : Fin grid0.N, _)

/-- The one place a one-cell load reads. -/
theorem load_val {s : Shape} (off size : Fin s.rank → ℕ) (h : ∀ a, off a + size a ≤ s.size a)
    (x : (Rect.unit (s := s) off size h).toLoadRect.shape.Idx) (a : Fin s.rank) :
    ((Rect.unit (s := s) off size h).toLoadRect.idx x a).val = off a + (x a).val := by
  show off a + 1 * (x a).val = _
  rw [Nat.one_mul]

theorem off1_eq (t : Fin cfg0.N) (g : Fin 52) :
    k0_off1 (grid0.coords t) (BitVec.ofNat 32 g.val) = ![52 * t.val + g.val, 0] := by
  rw [k0_off1_eq, coords_val]

theorem off2_eq (t : Fin cfg0.N) (g : Fin 52) :
    k0_off2 (grid0.coords t) (BitVec.ofNat 32 g.val) = ![52 * t.val + g.val, 1] := by
  rw [k0_off2_eq, coords_val]

theorem off3_eq (t : Fin cfg0.N) (g : Fin 52) :
    k0_off3 (grid0.coords t) (BitVec.ofNat 32 g.val) = ![52 * t.val + g.val, 2] := by
  rw [k0_off3_eq, coords_val]

theorem ldX_eq (t : Fin cfg0.N) (g : Fin 52) :
    ldX (grid0.coords t) (ms0_0 t) (hs0_0 t) (iblk m c 0 t) g = tX m c (pn t g) := by
  unfold ldX tX
  rw [Memref.IsWhole.readAt_unread]
  have h0 := congrFun (off1_eq t g) 0
  have h1 := congrFun (off1_eq t g) 1
  blk_ext [iblk, idx0 t, load_val, pn, h0, h1]

theorem ldY_eq (t : Fin cfg0.N) (g : Fin 52) :
    ldY (grid0.coords t) (ms0_0 t) (hs0_0 t) (iblk m c 0 t) g = tY m c (pn t g) := by
  unfold ldY tY
  rw [Memref.IsWhole.readAt_unread]
  have h0 := congrFun (off2_eq t g) 0
  have h1 := congrFun (off2_eq t g) 1
  blk_ext [iblk, idx0 t, load_val, pn, h0, h1]

theorem ldV_eq (t : Fin cfg0.N) (g : Fin 52) :
    ldV (grid0.coords t) (ms0_0 t) (hs0_0 t) (iblk m c 0 t) g = tV m c (pn t g) := by
  unfold ldV tV
  rw [Memref.IsWhole.readAt_unread]
  have h0 := congrFun (off3_eq t g) 0
  have h1 := congrFun (off3_eq t g) 1
  blk_ext [iblk, idx0 t, load_val, pn, h0, h1]

theorem ldT_eq (t : Fin cfg0.N) (g : Fin 52) :
    ldT (grid0.coords t) (ms0_1 t) (hs0_1 t) (iblk m c 1 t) g = tT m c (pn t g) := by
  unfold ldT tT
  rw [Memref.IsWhole.readAt_unread]
  have h0 := off4_eq t g
  congr 1
  blk_ext [iblk, idx1 t, load_val, pn, h0]

theorem ldQ_eq (t : Fin cfg0.N) (g : Fin 52) :
    ldQ (ms0_2 t) (hs0_2 t) (ms0_3 t) (hs0_3 t) (iblk m c 2 t) (iblk m c 3 t) g = tQ m c (pn t g) := by
  funext j
  unfold ldQ tQ planeOf
  refine (shapeCast_dropUnit_apply ![256, 256] _ _ j).trans ?_
  split
  · rw [Memref.IsWhole.readAt_unread]
    blk_ext [iblk, idx2 t, load_val, pn]
    · rfl
    · rfl
  · rw [Memref.IsWhole.readAt_unread]
    blk_ext [iblk, idx3 t, load_val, pn]
    · rfl
    · rfl

/-! ## What a step leaves -/

/-- The heatmap block of step `t`. -/
def heatG (t : Fin cfg0.N) : FVec F S52x256x256 .f32 := fun y =>
  heat (tX m c (pn t (y 0))) (tY m c (pn t (y 0))) (ix2 (y 1) (y 2))

/-- The statistics block of step `t`. -/
def statsG (t : Fin cfg0.N) : FVec F S52x1x128 .f32 := fun y =>
  stats (tX m c (pn t (y 0))) (tY m c (pn t (y 0))) (tQ m c (pn t (y 0))) (ix3 (0 : Fin 1) (y 1) (y 2))

theorem heatPieces_agree (X Y : Fin 52 → F .f32) (n : ℕ) (hn : n ≤ 52) :
    ∀ p ∈ heatPieces X Y n hn, ∀ x : p.1.shape.Idx,
      p.2 x = (fun y : S52x256x256.Idx => heat (X (y 0)) (Y (y 0)) (ix2 (y 1) (y 2))) (p.1.emb x) := by
  induction n with
  | zero => intro p hp; exact absurd hp List.not_mem_nil
  | succ n ih =>
    intro p hp
    rcases List.mem_cons.mp hp with rfl | hp
    · intro x
      refine (shapeCast_addUnit_apply ![256, 256] _ _ x).trans ?_
      have h0 : (Rect.unit (s := S52x256x256) ![n, 0, 0] S1x256x256.size (inb_heat hn)).emb x 0 = ⟨n, hn⟩ := by
        apply Fin.ext
        show n + 1 * (x 0).val = n
        have := (x 0).isLt
        have h1 : (x 0).val < 1 := this
        omega
      show _ = heat (X ((Rect.unit (s := S52x256x256) ![n, 0, 0] S1x256x256.size (inb_heat hn)).emb x 0))
        (Y ((Rect.unit (s := S52x256x256) ![n, 0, 0] S1x256x256.size (inb_heat hn)).emb x 0)) _
      rw [h0]
      congr 1
      funext a
      apply Fin.ext
      fin_cases a
      · show (x 1).val = 0 + 1 * (x 1).val
        omega
      · show (x 2).val = 0 + 1 * (x 2).val
        omega
    · exact ih _ p hp

theorem statsPieces_agree (X Y : Fin 52 → F .f32) (Q : Fin 52 → FVec F S256x256 .f32) (n : ℕ) (hn : n ≤ 52) :
    ∀ p ∈ statsPieces X Y Q n hn, ∀ x : p.1.shape.Idx,
      p.2 x = (fun y : S52x1x128.Idx => stats (X (y 0)) (Y (y 0)) (Q (y 0)) (ix3 (0 : Fin 1) (y 1) (y 2))) (p.1.emb x) := by
  induction n with
  | zero => intro p hp; exact absurd hp List.not_mem_nil
  | succ n ih =>
    intro p hp
    rcases List.mem_cons.mp hp with rfl | hp
    · intro x
      have hx : (x 0).val < 1 := (x 0).isLt
      have h0 : (Rect.unit (s := S52x1x128) ![n, 0, 0] S1x1x128.size (inb_stats hn)).emb x 0 = ⟨n, hn⟩ := by
        apply Fin.ext
        show n + 1 * (x 0).val = n
        omega
      show stats (X ⟨n, hn⟩) (Y ⟨n, hn⟩) (Q ⟨n, hn⟩) x
        = stats (X ((Rect.unit (s := S52x1x128) ![n, 0, 0] S1x1x128.size (inb_stats hn)).emb x 0))
          (Y ((Rect.unit (s := S52x1x128) ![n, 0, 0] S1x1x128.size (inb_stats hn)).emb x 0))
          (Q ((Rect.unit (s := S52x1x128) ![n, 0, 0] S1x1x128.size (inb_stats hn)).emb x 0)) _
      rw [h0]
      congr 1
      funext a
      apply Fin.ext
      fin_cases a
      · show (x 0).val = 0
        omega
      · show (x 1).val = 0 + 1 * (x 1).val
        omega
      · show (x 2).val = 0 + 1 * (x 2).val
        omega
    · exact ih _ p hp

/-- The four sums over step `t`'s planes. -/
def sumsG (t : Fin cfg0.N) : FVec F S4x128 .f32 :=
  sums (fun g => tX m c (pn t g)) (fun g => tY m c (pn t g)) (fun g => tV m c (pn t g)) (fun g => tT m c (pn t g))
    (fun g => tQ m c (pn t g)) 52 le_rfl

theorem sumPiece_eq (t : Fin cfg0.N) (a : Vec F S4x128 .f32) :
    sumPiece (grid0.coords t) (ms0_0 t) (hs0_0 t) (ms0_1 t) (hs0_1 t) (ms0_2 t) (hs0_2 t) (ms0_3 t) (hs0_3 t)
        (iblk m c 0 t) (iblk m c 1 t) (iblk m c 2 t) (iblk m c 3 t) a
      = ⟨Rect.unit ![0, 0] S4x128.size inb_S4x128_S4x128_0_0, addf a (sumsG m c t)⟩ := by
  unfold sumPiece
  rw [shapeCast_self, sumsG, funext (ldX_eq m c t), funext (ldY_eq m c t), funext (ldV_eq m c t),
    funext (ldT_eq m c t), funext (ldQ_eq m c t)]

theorem heatL_eq (t : Fin cfg0.N) :
    heatL (grid0.coords t) (ms0_0 t) (hs0_0 t) (iblk m c 0 t)
      = heatPieces (fun g => tX m c (pn t g)) (fun g => tY m c (pn t g)) 52 le_rfl := by
  unfold heatL
  rw [funext (ldX_eq m c t), funext (ldY_eq m c t)]

theorem statsL_eq (t : Fin cfg0.N) :
    statsL (grid0.coords t) (ms0_0 t) (hs0_0 t) (ms0_2 t) (hs0_2 t) (ms0_3 t) (hs0_3 t)
        (iblk m c 0 t) (iblk m c 2 t) (iblk m c 3 t)
      = statsPieces (fun g => tX m c (pn t g)) (fun g => tY m c (pn t g)) (fun g => tQ m c (pn t g)) 52 le_rfl := by
  unfold statsL
  rw [funext (ldX_eq m c t), funext (ldY_eq m c t), funext (ldQ_eq m c t)]

/-- The step's heatmap block. -/
theorem outs_heat (t : Fin cfg0.N) : (outsAt0 m c t.val t.isLt).1 = heatG m c t := by
  funext y
  by_cases h0 : t.val % 8 = 0
  · have h1 : ¬ t.val % 8 = 7 := by omega
    rw [outsAt0_A m c t h0 h1]
    dsimp only
    unfold out0_A_4
    exact View.read_writes_apply_of_pieces _ _ _ _
      (by rw [heat_A, heatL_eq]; exact heatPieces_agree _ _ 52 le_rfl) y (cover0_A_4 ..)
  · by_cases h1 : t.val % 8 = 7
    · rw [outsAt0_C m c t h0 h1]
      dsimp only
      unfold out0_C_4
      exact View.read_writes_apply_of_pieces _ _ _ _
        (by rw [heat_C, heatL_eq]; exact heatPieces_agree _ _ 52 le_rfl) y (cover0_C_4 ..)
    · rw [outsAt0_B m c t h0 h1]
      dsimp only
      unfold out0_B_4
      exact View.read_writes_apply_of_pieces _ _ _ _
        (by rw [heat_B, heatL_eq]; exact heatPieces_agree _ _ 52 le_rfl) y (cover0_B_4 ..)

/-- The step's statistics block. -/
theorem outs_stats (t : Fin cfg0.N) : (outsAt0 m c t.val t.isLt).2.1 = statsG m c t := by
  funext y
  by_cases h0 : t.val % 8 = 0
  · have h1 : ¬ t.val % 8 = 7 := by omega
    rw [outsAt0_A m c t h0 h1]
    dsimp only
    unfold out0_A_5
    exact View.read_writes_apply_of_pieces _ _ _ _
      (by rw [stats_A, statsL_eq]; exact statsPieces_agree _ _ _ 52 le_rfl) y (cover0_A_5 ..)
  · by_cases h1 : t.val % 8 = 7
    · rw [outsAt0_C m c t h0 h1]
      dsimp only
      unfold out0_C_5
      exact View.read_writes_apply_of_pieces _ _ _ _
        (by rw [stats_C, statsL_eq]; exact statsPieces_agree _ _ _ 52 le_rfl) y (cover0_C_5 ..)
    · rw [outsAt0_B m c t h0 h1]
      dsimp only
      unfold out0_B_5
      exact View.read_writes_apply_of_pieces _ _ _ _
        (by rw [stats_B, statsL_eq]; exact statsPieces_agree _ _ _ 52 le_rfl) y (cover0_B_5 ..)

/-- The first step leaves its planes' sums, over zero. -/
theorem outs_sum_first (t : Fin cfg0.N) (h0 : t.val % 8 = 0) (h1 : ¬ t.val % 8 = 7) :
    (outsAt0 m c t.val t.isLt).2.2.2
      = addf (broadcast S4x128 (Scalar.ofBits .f32 0x00000000#32)) (sumsG m c t) := by
  rw [outsAt0_A m c t h0 h1]
  dsimp only
  unfold sout0_A_0
  rw [sum_A, sumPiece_eq]
  simp (disch := decide) only [zeroL, shapeCast_self, View.read_writes_junk_eq_canon, View.canon_cons_unit_lit',
    View.readCov_unit_lit']

/-- A later step adds its planes' sums to what the step before left. -/
theorem outs_sum_next (t : Fin cfg0.N) (h0 : ¬ t.val % 8 = 0) :
    (outsAt0 m c t.val t.isLt).2.2.2
      = addf (outsAt0 m c (t.val - 1) (Nat.lt_of_le_of_lt (Nat.sub_le _ _) t.isLt)).2.2.2 (sumsG m c t) := by
  by_cases h1 : t.val % 8 = 7
  · rw [outsAt0_C m c t h0 h1]
    dsimp only
    unfold sout0_C_0
    rw [sum_C, sumPiece_eq]
    simp (disch := decide) only [View.read_writes_junk_eq_canon, View.canon_cons_unit_lit', View.ld_unit_lit',
      View.readAt_eq_ld]
    exact congrArg (fun a => addf a (sumsG m c t)) (Memref.IsWhole.read_unread _ _)
  · rw [outsAt0_B m c t h0 h1]
    dsimp only
    unfold sout0_B_0
    rw [sum_B, sumPiece_eq]
    simp (disch := decide) only [View.read_writes_junk_eq_canon, View.canon_cons_unit_lit', View.ld_unit_lit',
      View.readAt_eq_ld]
    exact congrArg (fun a => addf a (sumsG m c t)) (Memref.IsWhole.read_unread _ _)

/-- The last step's results, from the sums it leaves. -/
theorem outs_fin (t : Fin cfg0.N) (h0 : ¬ t.val % 8 = 0) (h1 : t.val % 8 = 7) :
    (outsAt0 m c t.val t.isLt).2.2.1 = finBlk (outsAt0 m c t.val t.isLt).2.2.2 := by
  rw [outs_sum_next m c t h0, outsAt0_C m c t h0 h1]
  dsimp only
  unfold out0_C_6
  rw [fin_C, sumPiece_eq]
  simp (disch := decide) only [View.read_writes_junk_eq_canon, View.canon_cons_unit_lit', View.ld_unit_lit',
    View.readAt_eq_ld, View.readCov_unit_lit']
  exact congrArg (fun a => finBlk (addf a (sumsG m c t))) (Memref.IsWhole.read_unread _ _)

end Cert.Plane
-- ==== Proof.KernelRun.lean ====
module

public import proofs.«01_k».proof.Proof.Blocks
public import Idealize.ShloMosaic.Lib.Claim
public import Idealize.ShloMosaic.Lib.Pointwise

/-! # What the kernel's program ends with -/

@[expose] public section

noncomputable section

namespace Cert.Plane

open Idealize.ShloMosaic Idealize.ShloMosaic.Tactic Idealize.SL.Sem
open Cert.KernelIdeal Cert.KernelIdeal.Gen

variable {F : FTy → Type} [FloatOps F]

variable (m : (ℓ : Loc nD τ sig) → Buf (Elt F) ℓ) (ρ : Dev nD → PrngReg) (c : Dev nD)

/-- Every plane's heatmap. -/
def heatArr : FVec F S416x256x256 .f32 := fun y => heat (tX m c (y 0)) (tY m c (y 0)) (ix2 (y 1) (y 2))

/-- Every plane's statistics. -/
def statsArr : FVec F S416x1x128 .f32 := fun y =>
  stats (tX m c (y 0)) (tY m c (y 0)) (tQ m c (y 0)) (ix3 (0 : Fin 1) (y 1) (y 2))

/-- The four sums after the last step. -/
def total : FVec F S4x128 .f32 := (outsAt0 m c 7 (by decide)).2.2.2

/-- The last step's three results. -/
def finArr : FVec F S1x1x128 .f32 := finBlk (total m c)

theorem arr_heat : (dats m 0 c).arrAt 4 (cfgs 0).N = heatArr m c := by
  refine (dats m 0 c).arrAt_eq_of_covers 4 _ (by decide +kernel) fun t hf y => ?_
  blk_simp
  rw [after0_4, outs_heat]
  have e : (win0_4.blk t).view.emb y = ix3 (pn t (y 0)) (y 1) (y 2) := by
    blk_ext [idx4 t, pn]
  rw [e]
  rfl

theorem arr_stats : (dats m 0 c).arrAt 5 (cfgs 0).N = statsArr m c := by
  refine (dats m 0 c).arrAt_eq_of_covers 5 _ (by decide +kernel) fun t hf y => ?_
  blk_simp
  rw [after0_5, outs_stats]
  have e : (win0_5.blk t).view.emb y = ix3 (pn t (y 0)) (y 1) (y 2) := by
    blk_ext [idx5 t, pn]
  rw [e]
  rfl

theorem arr_fin : (dats m 0 c).arrAt 6 (cfgs 0).N = finArr m c := by
  refine (dats m 0 c).arrAt_eq_of_covers 6 _ (by decide +kernel) fun t hf y => ?_
  blk_simp
  rw [after0_6]
  have h7 : t.val % 8 = 7 := (flush0_6 t).mp hf
  have ht : t = ⟨7, by decide⟩ := Fin.ext (by have := t.isLt; have h : cfg0.grid.N = 8 := N_0; show t.val = 7; omega)
  rw [outs_fin m c t (by omega) h7]
  have e : (win0_6.blk t).view.emb y = y := by
    blk_ext [idx6 t]
  rw [e]
  subst ht
  rfl

/-- The region's exit contents at an array. -/
theorem exit_arr (w : Fin cfg0.W) :
    Pipeline.withArrays (cfgs 0).spec c (V0 m c) (fun w => (dats m 0 c).arrAt w (cfgs 0).N)
        (Proc.tc.devRef (Pipeline.arrRef (cfgs 0).spec w)) = (dats m 0 c).arrAt w (cfgs 0).N :=
  Pipeline.Dat.withArrays_arrAt (dats m 0 c) sharedIn0 (V0 m c) (A_eq m c) w

/-- What the program ends with: the three arrays, sliced and reshaped. -/
theorem run : θ_run defs (onTc (τ := τ) (main (F := F))) ⟨m, fun _ => 0, ρ⟩ (fun r => ∀ c : Dev nD,
    r.2.mem ((c.tc : Thread nD τ).loc main_v11)
        = shapeCast S_ (extractStridedSlice S1x1x1 ![0, 0, 0] (finArr m c) slices_S1x1x128_S1x1x1_0_0_0) shapeCasts_S1x1x1_S_
    ∧ r.2.mem ((c.tc : Thread nD τ).loc main_v13)
        = shapeCast S_ (extractStridedSlice S1x1x1 ![0, 0, 1] (finArr m c) slices_S1x1x128_S1x1x1_0_0_1) shapeCasts_S1x1x1_S_
    ∧ r.2.mem ((c.tc : Thread nD τ).loc main_v6)
        = shapeCast S32x13x2 (shapeCast S416x2 (extractStridedSlice S416x1x2 ![0, 0, 0] (statsArr m c)
            slices_S416x1x128_S416x1x2_0_0_0) shapeCasts_S416x1x2_S416x2) shapeCasts_S416x2_S32x13x2
    ∧ r.2.mem ((c.tc : Thread nD τ).loc main_v3) = shapeCast S32x13x256x256 (heatArr m c) shapeCasts_S416x256x256_S32x13x256x256
    ∧ r.2.mem ((c.tc : Thread nD τ).loc main_v15)
        = shapeCast S_ (extractStridedSlice S1x1x1 ![0, 0, 2] (finArr m c) slices_S1x1x128_S1x1x1_0_0_2) shapeCasts_S1x1x1_S_
    ∧ r.2.mem ((c.tc : Thread nD τ).loc main_v9)
        = shapeCast S32x13 (shapeCast S416 (extractStridedSlice S416x1x1 ![0, 0, 2] (statsArr m c)
            slices_S416x1x128_S416x1x1_0_0_2) shapeCasts_S416x1x1_S416) shapeCasts_S416_S32x13) := by
  run_from run_main m ρ
  · unfold Pipeline.afterTail₀
    show StableHlo.after hostOps1 _ _ = _
    after_results
    rw [← arr_fin m c, ← exit_arr m c 6]
    rfl
  · unfold Pipeline.afterTail₀
    show StableHlo.after hostOps1 _ _ = _
    after_results
    rw [← arr_fin m c, ← exit_arr m c 6]
    rfl
  · unfold Pipeline.afterTail₀
    show StableHlo.after hostOps1 _ _ = _
    after_results
    rw [← arr_stats m c, ← exit_arr m c 5]
    rfl
  · unfold Pipeline.afterTail₀
    show StableHlo.after hostOps1 _ _ = _
    after_results
    rw [← arr_heat m c, ← exit_arr m c 4]
    rfl
  · unfold Pipeline.afterTail₀
    show StableHlo.after hostOps1 _ _ = _
    after_results
    rw [← arr_fin m c, ← exit_arr m c 6]
    rfl
  · unfold Pipeline.afterTail₀
    show StableHlo.after hostOps1 _ _ = _
    after_results
    rw [← arr_stats m c, ← exit_arr m c 5]
    rfl

/-! ## The planes' inputs are the arguments' -/

/-- The plane of sample `b`, joint `k`. -/
def pl (b : Fin 32) (k : Fin 13) : Fin 416 := ⟨13 * b.val + k.val, by omega⟩

theorem targets_eq (b : Fin 32) (k : Fin 13) (e : Fin 3) :
    V m c main_v1 (ix2 (pl b k) e) = m ((c.tc : Thread nD τ).loc main_arg1) (ix3 b k e) := by
  have h : V m c main_v1 = shapeCast S416x3 (m ((c.tc : Thread nD τ).loc main_arg1)) shapeCasts_S32x13x3_S416x3 := by
    show StableHlo.after hostOps0 (fun b => m (c, b)) (Proc.devRef .tc main_v1) = _
    after_results
    rfl
  rw [h]
  refine shapeCast_apply _ _ (ix2 (pl b k) e) (ix3 b k e) ?_
  rw [Shape.rowMajor_val_three, Shape.rowMajor_val_two]
  show (b.val * 13 + k.val) * 3 + e.val = (13 * b.val + k.val) * 3 + e.val
  omega

theorem preds_eq (b : Fin 32) (k : Fin 13) (u v : Fin 256) :
    V m c main_v0 (ix3 (pl b k) u v) = m ((c.tc : Thread nD τ).loc main_arg0) (ix4 b k u v) := by
  have h : V m c main_v0 = shapeCast S416x256x256 (m ((c.tc : Thread nD τ).loc main_arg0)) shapeCasts_S32x13x256x256_S416x256x256 := by
    show StableHlo.after hostOps0 (fun b => m (c, b)) (Proc.devRef .tc main_v0) = _
    after_results
    rfl
  rw [h]
  refine shapeCast_apply _ _ (ix3 (pl b k) u v) (ix4 b k u v) ?_
  rw [Shape.rowMajor_val_four, Shape.rowMajor_val_three]
  show ((b.val * 13 + k.val) * 256 + u.val) * 256 + v.val = ((13 * b.val + k.val) * 256 + u.val) * 256 + v.val
  omega

/-- The threshold's head size. -/
theorem head_eq (b : Fin 32) (k : Fin 13) (h : (pl b k).val / 13 < 32) :
    V m c main_arg2 (ix1 (⟨(pl b k).val / 13, h⟩ : Fin 32)) = m ((c.tc : Thread nD τ).loc main_arg2) (ix1 b) := by
  rw [V_main_arg2]
  congr 2
  apply Fin.ext
  show (13 * b.val + k.val) / 13 = b.val
  omega

/-! ## The results at an index -/

variable (A : FVec F S416x1x128 .f32) (H : FVec F S416x256x256 .f32) (E : FVec F S1x1x128 .f32)

theorem heat_at (b : Fin 32) (k : Fin 13) (u v : Fin 256) :
    shapeCast S32x13x256x256 H shapeCasts_S416x256x256_S32x13x256x256 (ix4 b k u v) = H (ix3 (pl b k) u v) := by
  refine shapeCast_apply _ _ (ix4 b k u v) (ix3 (pl b k) u v) ?_
  rw [Shape.rowMajor_val_four, Shape.rowMajor_val_three]
  show ((13 * b.val + k.val) * 256 + u.val) * 256 + v.val = ((b.val * 13 + k.val) * 256 + u.val) * 256 + v.val
  omega

theorem joints_at (b : Fin 32) (k : Fin 13) (e : Fin 2) :
    shapeCast S32x13x2 (shapeCast S416x2 (extractStridedSlice S416x1x2 ![0, 0, 0] A
        slices_S416x1x128_S416x1x2_0_0_0) shapeCasts_S416x1x2_S416x2) shapeCasts_S416x2_S32x13x2 (ix3 b k e)
      = A (ix3 (pl b k) (0 : Fin 1) (⟨e.val, by omega⟩ : Fin 128)) := by
  refine (shapeCast_apply _ _ (ix3 b k e) (ix2 (pl b k) e) ?_).trans ?_
  · rw [Shape.rowMajor_val_three, Shape.rowMajor_val_two]
    show (13 * b.val + k.val) * 2 + e.val = (b.val * 13 + k.val) * 2 + e.val
    omega
  refine (shapeCast_apply _ _ (ix2 (pl b k) e) (ix3 (pl b k) (0 : Fin 1) e) ?_).trans ?_
  · rw [Shape.rowMajor_val_three, Shape.rowMajor_val_two]
    show ((13 * b.val + k.val) * 1 + 0) * 2 + e.val = (13 * b.val + k.val) * 2 + e.val
    omega
  · pointwise

theorem err_at (b : Fin 32) (k : Fin 13) :
    shapeCast S32x13 (shapeCast S416 (extractStridedSlice S416x1x1 ![0, 0, 2] A
        slices_S416x1x128_S416x1x1_0_0_2) shapeCasts_S416x1x1_S416) shapeCasts_S416_S32x13 (ix2 b k)
      = A (ix3 (pl b k) (0 : Fin 1) (2 : Fin 128)) := by
  refine (shapeCast_apply _ _ (ix2 b k) (ix1 (pl b k)) ?_).trans ?_
  · rw [Shape.rowMajor_val_two, Shape.rowMajor_val_one]
    show (13 * b.val + k.val) = (b.val * 13 + k.val)
    omega
  refine (shapeCast_apply _ _ (ix1 (pl b k)) (ix3 (pl b k) (0 : Fin 1) (0 : Fin 1)) ?_).trans ?_
  · rw [Shape.rowMajor_val_three, Shape.rowMajor_val_one]
    show ((13 * b.val + k.val) * 1 + 0) * 1 + 0 = (13 * b.val + k.val)
    omega
  · pointwise

theorem fin0_at (i : S_.Idx) :
    shapeCast S_ (extractStridedSlice S1x1x1 ![0, 0, 0] E slices_S1x1x128_S1x1x1_0_0_0) shapeCasts_S1x1x1_S_ i
      = E (ix3 (0 : Fin 1) (0 : Fin 1) (0 : Fin 128)) := by
  pointwise

theorem fin1_at (i : S_.Idx) :
    shapeCast S_ (extractStridedSlice S1x1x1 ![0, 0, 1] E slices_S1x1x128_S1x1x1_0_0_1) shapeCasts_S1x1x1_S_ i
      = E (ix3 (0 : Fin 1) (0 : Fin 1) (1 : Fin 128)) := by
  pointwise

theorem fin2_at (i : S_.Idx) :
    shapeCast S_ (extractStridedSlice S1x1x1 ![0, 0, 2] E slices_S1x1x128_S1x1x1_0_0_2) shapeCasts_S1x1x1_S_ i
      = E (ix3 (0 : Fin 1) (0 : Fin 1) (2 : Fin 128)) := by
  pointwise

end Cert.Plane
-- ==== Proof.KTotal.lean ====
module

public import proofs.«01_k».proof.Proof.KernelRun
public import proofs.«01_k».proof.Proof.Gauss

/-! # The running sums after the last step -/

@[expose] public section

noncomputable section

namespace Cert.Plane

open Idealize.ShloMosaic Idealize.ShloMosaic.Tactic Idealize.SL.Sem
open Cert.KernelIdeal Cert.KernelIdeal.Gen Cert.Gauss

variable (m : (ℓ : Loc nD τ sig) → Buf (Elt Ideal) ℓ) (c : Dev nD) (i : S4x128.Idx)

/-- What a plane adds to a running sum. -/
def part (p : Fin 416) : EReal := share (F := Ideal) (tX m c p) (tY m c p) (tV m c p) (tT m c p) (tQ m c p) i

theorem sums_at (X Y V T : Fin 52 → Ideal .f32) (Q : Fin 52 → FVec Ideal S256x256 .f32) (n : ℕ) (hn : n ≤ 52) :
    (sums X Y V T Q n hn i : EReal)
      = ∑ g : Fin n, (share (X ⟨g, by omega⟩) (Y ⟨g, by omega⟩) (V ⟨g, by omega⟩) (T ⟨g, by omega⟩) (Q ⟨g, by omega⟩) i : EReal) := by
  induction n with
  | zero => exact lit_0
  | succ n ih =>
    rw [Fin.sum_univ_castSucc]
    show (sums X Y V T Q n _ i : EReal) + _ = _
    rw [ih]
    rfl

theorem sumsG_at (t : Fin cfg0.N) : (sumsG m c t i : EReal) = ∑ g : Fin 52, part m c i (pn t g) :=
  sums_at i _ _ _ _ _ 52 le_rfl

/-- The running sum after step `n`: the planes' shares so far. -/
theorem outs_at (n : ℕ) (hn : n < cfg0.N) :
    ((outsAt0 m c n hn).2.2.2 i : EReal)
      = ∑ t : Fin (n + 1), ∑ g : Fin 52, part m c i (pn ⟨t, Nat.lt_of_le_of_lt (Nat.le_of_lt_succ t.isLt) hn⟩ g) := by
  have h8 : cfg0.N = 8 := N_0
  induction n with
  | zero =>
    have e := congrFun (outs_sum_first m c ⟨0, hn⟩ rfl (by show ¬ 0 % 8 = 7; decide)) i
    refine e.trans ?_
    show Ideal.ofBits .f32 0x00000000#32 + (sumsG m c ⟨0, hn⟩ i : EReal) = _
    rw [lit_0, zero_add, sumsG_at, Fin.sum_univ_one]
    rfl
  | succ n ih =>
    have e := congrFun (outs_sum_next m c ⟨n + 1, hn⟩ (by show ¬ (n + 1) % 8 = 0; omega)) i
    refine e.trans ?_
    show ((outsAt0 m c n _).2.2.2 i : EReal) + (sumsG m c ⟨n + 1, hn⟩ i : EReal) = _
    rw [ih (by omega), sumsG_at, Fin.sum_univ_castSucc (n := n + 1)]
    rfl

/-- A sum over the planes, by blocks of `b`. -/
theorem sum_blocks {A B : ℕ} (f : ℕ → EReal) : (∑ a : Fin A, ∑ b : Fin B, f (B * a.val + b.val)) = ∑ p : Fin (A * B), f p.val := by
  rw [← Fintype.sum_prod_type', ← finProdFinEquiv.sum_comp]
  refine Finset.sum_congr rfl fun p _ => congrArg f ?_
  simp [finProdFinEquiv]
  ring

/-- A sum over all the planes, sample by sample and joint by joint. -/
theorem total_at : (total m c i : EReal) = ∑ b : Fin 32, ∑ k : Fin 13, part m c i (pl b k) := by
  refine (outs_at m c i 7 (by decide)).trans ?_
  let f : ℕ → EReal := fun n => if h : n < 416 then part m c i ⟨n, h⟩ else 0
  have hf (p : Fin 416) : part m c i p = f p.val := by
    show _ = dite _ _ _
    rw [dif_pos p.isLt]
  simp only [hf]
  exact (sum_blocks (A := 8) (B := 52) f).trans (sum_blocks (A := 32) (B := 13) f).symm

section Fin

variable (a : FVec Ideal S4x128 .f32)

theorem lane_at (v : FVec Ideal S1x128 .f32) (l : Fin 128) :
    shapeCast S1x1x128 v shapeCasts_S1x128_S1x1x128 (ix3 (0 : Fin 1) (0 : Fin 1) l) = v (ix2 (0 : Fin 1) l) := by
  pointwise

theorem pick_0 (e f : FVec Ideal S1x128 .f32) :
    select (cmpi .eq li (broadcast S1x128 0#32)) e f (ix2 (0 : Fin 1) (0 : Fin 128)) = e (ix2 (0 : Fin 1) (0 : Fin 128)) := rfl

theorem pick_1 (e f g : FVec Ideal S1x128 .f32) :
    select (cmpi .eq li (broadcast S1x128 0#32)) e (select (cmpi .eq li (broadcast S1x128 1#32)) f g) (ix2 (0 : Fin 1) (1 : Fin 128))
      = f (ix2 (0 : Fin 1) (1 : Fin 128)) := rfl

theorem pick_2 (e f g h : FVec Ideal S1x128 .f32) :
    select (cmpi .eq li (broadcast S1x128 0#32)) e (select (cmpi .eq li (broadcast S1x128 1#32)) f
      (select (cmpi .eq li (broadcast S1x128 2#32)) g h)) (ix2 (0 : Fin 1) (2 : Fin 128)) = g (ix2 (0 : Fin 1) (2 : Fin 128)) := rfl

theorem fin_loss : (finBlk a (ix3 (0 : Fin 1) (0 : Fin 1) (0 : Fin 128)) : EReal)
    = Ideal.div (a (ix2 (0 : Fin 4) (0 : Fin 128))) (Ideal.ofBits .f32 0x43D00000#32) := by
  unfold finBlk
  rw [lane_at, pick_0]
  pointwise

theorem fin_mean : (finBlk a (ix3 (0 : Fin 1) (0 : Fin 1) (1 : Fin 128)) : EReal)
    = Ideal.div (a (ix2 (2 : Fin 4) (1 : Fin 128))) (Ideal.ofBits .f32 0x3A83126F#32 + a (ix2 (1 : Fin 4) (1 : Fin 128))) := by
  unfold finBlk
  rw [lane_at, pick_1]
  pointwise

theorem fin_pckh : (finBlk a (ix3 (0 : Fin 1) (0 : Fin 1) (2 : Fin 128)) : EReal)
    = Ideal.div (a (ix2 (3 : Fin 4) (2 : Fin 128))) (Ideal.ofBits .f32 0x3A83126F#32 + a (ix2 (1 : Fin 4) (2 : Fin 128))) := by
  unfold finBlk
  rw [lane_at, pick_2]
  pointwise

end Fin

end Cert.Plane
-- ==== Proof.KShare.lean ====
module

public import proofs.«01_k».proof.Proof.Plane
public import proofs.«01_k».proof.Proof.KVal

@[expose] public section

noncomputable section

namespace Cert.Plane

open Idealize.ShloMosaic Idealize.ShloMosaic.Tactic Idealize.SL.Sem
open Cert.KernelIdeal Cert.KernelIdeal.Gen Cert.Gauss

section Share

theorem rows4_at (v : FVec Ideal S1x1 .f32) (a : Fin 4) (l : Fin 128) : rows4 v (ix2 a l) = v (ix2 (0 : Fin 1) (0 : Fin 1)) := by
  pointwise [rows4]

/-- A choice by the row's number. -/
theorem pick (e g h : FVec Ideal S4x128 .f32) (f : FVec Ideal S4x128 .f32) (a : Fin 4) (l : Fin 128) :
    select (cmpi .eq si4 (broadcast S4x128 0#32)) e (select (cmpi .eq si4 (broadcast S4x128 1#32)) f
      (select (cmpi .eq si4 (broadcast S4x128 2#32)) g h)) (ix2 a l)
      = if a = 0 then e (ix2 a l) else if a = 1 then f (ix2 a l)
        else if a = 2 then g (ix2 a l) else h (ix2 a l) := by
  fin_cases a <;> rfl

/-- A one-cell block's product with a number. -/
theorem mul_cell (v : FVec Ideal S1x1 .f32) (a : EReal) (i : S1x1.Idx) :
    mulf v (broadcast (α := Ideal .f32) S1x1 a) i = (show EReal from v i) * a := rfl

theorem inl_cell (v : FVec Ideal S1x1 .f32) (a : EReal) (i : S1x1.Idx) :
    select (cmpf .ole v (broadcast (α := Ideal .f32) S1x1 a)) (broadcast (α := Ideal .f32) S1x1 (Scalar.ofBits .f32 0x3F800000#32))
      (broadcast S1x1 (Scalar.ofBits .f32 0x00000000#32)) i = if (show EReal from v i) ≤ a then (1 : EReal) else 0 := by
  show Scalar.select (Ideal.cmp .ole (v i) a) (Ideal.ofBits .f32 0x3F800000#32) (Ideal.ofBits .f32 0x00000000#32) = _
  rw [lit_0, lit_1]
  by_cases h : (show EReal from v i) ≤ a
  · rw [if_pos h]
    simp [Ideal.cmp, Scalar.select, h]
  · rw [if_neg h]
    simp [Ideal.cmp, Scalar.select, h]

variable (l : Fin 128) (tx ty vis th : EReal) (q : FVec Ideal S256x256 .f32)

theorem share0 : share (F := Ideal) tx ty vis th q (ix2 (0 : Fin 4) l) = sqLoss (F := Ideal) tx ty q (ix2 (0 : Fin 1) (0 : Fin 1)) := by
  unfold share
  rw [pick, if_pos rfl, rows4_at]

theorem share1 : share (F := Ideal) tx ty vis th q (ix2 (1 : Fin 4) l) = vis := by
  unfold share
  rw [pick, if_neg (by decide), if_pos rfl, broadcast]

theorem share2 : share (F := Ideal) tx ty vis th q (ix2 (2 : Fin 4) l)
    = (show EReal from err (F := Ideal) tx ty q (ix2 (0 : Fin 1) (0 : Fin 1))) * vis := by
  unfold share
  rw [pick, if_neg (by decide), if_neg (by decide), if_pos rfl, rows4_at, mul_cell]

theorem share3 : share (F := Ideal) tx ty vis th q (ix2 (3 : Fin 4) l)
    = (if (show EReal from err (F := Ideal) tx ty q (ix2 (0 : Fin 1) (0 : Fin 1))) ≤ th then (1 : EReal) else 0) * vis := by
  unfold share
  rw [pick, if_neg (by decide), if_neg (by decide), if_neg (by decide), rows4_at, mul_cell, inl, inl_cell]

end Share

end Cert.Plane
-- ==== Proof.KStats.lean ====
module

public import proofs.«01_k».proof.Proof.Plane
public import proofs.«01_k».proof.Proof.KVal

@[expose] public section

noncomputable section

namespace Cert.Plane

open Idealize.ShloMosaic Idealize.ShloMosaic.Tactic Idealize.SL.Sem
open Cert.KernelIdeal Cert.KernelIdeal.Gen Cert.Gauss

theorem stats0 (tx ty : EReal) (q : FVec Ideal S256x256 .f32) :
    stats (F := Ideal) tx ty q (ix3 (0 : Fin 1) (0 : Fin 1) (0 : Fin 128)) = xPred q (ix2 (0 : Fin 1) (0 : Fin 1)) := by
  unfold stats
  generalize xPred q = e
  generalize yPred q = f
  generalize err (F := Ideal) tx ty q = g
  pointwise [li, lanes]
  all_goals rfl

theorem stats1 (tx ty : EReal) (q : FVec Ideal S256x256 .f32) :
    stats (F := Ideal) tx ty q (ix3 (0 : Fin 1) (0 : Fin 1) (1 : Fin 128)) = yPred q (ix2 (0 : Fin 1) (0 : Fin 1)) := by
  unfold stats
  generalize xPred q = e
  generalize yPred q = f
  generalize err (F := Ideal) tx ty q = g
  pointwise [li, lanes]
  all_goals rfl

theorem stats2 (tx ty : EReal) (q : FVec Ideal S256x256 .f32) :
    stats (F := Ideal) tx ty q (ix3 (0 : Fin 1) (0 : Fin 1) (2 : Fin 128)) = err (F := Ideal) tx ty q (ix2 (0 : Fin 1) (0 : Fin 1)) := by
  unfold stats
  generalize xPred q = e
  generalize yPred q = f
  generalize err (F := Ideal) tx ty q = g
  pointwise [li, lanes]
  all_goals rfl

end Cert.Plane
-- ==== Proof.Values.lean ====
module

public import proofs.«01_k».proof.Proof.RefArg
public import proofs.«01_k».proof.Proof.KTotal
public import proofs.«01_k».proof.Proof.KShare
public import proofs.«01_k».proof.Proof.KStats

/-! # The kernel's six results are the reference's -/

@[expose] public section

noncomputable section

namespace Cert.Values

open Idealize.ShloMosaic Idealize.ShloMosaic.Tactic Idealize.SL.Sem
open Cert.KernelIdeal Cert.KernelIdeal.Gen Cert.Gauss Cert.Plane

variable (m : (ℓ : Loc nD τ sig) → Buf (Elt Ideal) ℓ) (c : Dev nD)

/-- The predictions, as the reference takes them. -/
def a0 : FVec Ideal S32x13x256x256 .f32 := m ((c.tc : Thread nD τ).loc main_arg0)

/-- The targets. -/
def a1 : FVec Ideal S32x13x3 .f32 := m ((c.tc : Thread nD τ).loc main_arg1)

/-- The head sizes. -/
def a2 : FVec Ideal S32 .f32 := m ((c.tc : Thread nD τ).loc main_arg2)

variable (r : Fin 32 → Fin 13 → Fin 256 → Fin 256 → ℝ) (X Y : Fin 32 → Fin 13 → ℝ)
  (hr : ∀ b k u v, a0 m c (ix4 b k u v) = ((r b k u v : ℝ) : EReal))
  (eX : ∀ b k, a1 m c (ix3 b k (0 : Fin 3)) = ((X b k : ℝ) : EReal)) (eY : ∀ b k, a1 m c (ix3 b k (1 : Fin 3)) = ((Y b k : ℝ) : EReal))
  (hX : ∀ b k, 0 ≤ X b k ∧ X b k < 255) (hY : ∀ b k, 0 ≤ Y b k ∧ Y b k < 255)
  (b : Fin 32) (k : Fin 13)

include eX in
theorem tX_at : tX m c (pl b k) = ((X b k : ℝ) : EReal) := (targets_eq m c b k 0).trans (eX b k)

include eY in
theorem tY_at : tY m c (pl b k) = ((Y b k : ℝ) : EReal) := (targets_eq m c b k 1).trans (eY b k)

theorem tV_at : tV m c (pl b k) = a1 m c (ix3 b k (2 : Fin 3)) := targets_eq m c b k 2

theorem tT_at : tT m c (pl b k) = (a2 m c (ix1 b) : EReal) * Ideal.ofBits .f32 0x3F000000#32 :=
  congrArg (fun z : EReal => z * Ideal.ofBits .f32 0x3F000000#32) (head_eq m c b k _)

include hr in
theorem tQ_at (u v : Fin 256) : tQ m c (pl b k) (ix2 u v) = ((r b k u v : ℝ) : EReal) := (preds_eq m c b k u v).trans (hr b k u v)

include eX eY hX hY in
theorem heat_eq : shapeCast S32x13x256x256 (heatArr m c) shapeCasts_S416x256x256_S32x13x256x256
    = ReferenceIdeal.Read.val_main_v189 (F := Ideal) (a1 m c) := by
  funext i
  obtain ⟨b, k, u, v, rfl⟩ : ∃ b k u v, i = ix4 b k u v := ⟨_, _, _, _, eq_ix4 i⟩
  rw [heat_at, Ref.v189_at (a1 m c) X Y hX hY eX eY]
  show heat (tX m c (pl b k)) (tY m c (pl b k)) (ix2 u v) = _
  rw [tX_at m c X eX, tY_at m c Y eY]
  exact heat_real _ _ _ _

section Joints

variable (y x : Fin 32 → Fin 13 → Fin 256) (h : ∀ b k, First (r b k) (y b k) (x b k))

include hr h in
theorem joints_eq : shapeCast S32x13x2 (shapeCast S416x2 (extractStridedSlice S416x1x2 ![0, 0, 0] (statsArr m c)
      slices_S416x1x128_S416x1x2_0_0_0) shapeCasts_S416x1x2_S416x2) shapeCasts_S416x2_S32x13x2
    = ReferenceIdeal.Read.val_main_v205 (F := Ideal) (a0 m c) := by
  funext i
  obtain ⟨b, k, e, rfl⟩ : ∃ b k e, i = ix3 b k e := ⟨_, _, _, eq_ix3 i⟩
  rw [joints_at]
  match e with
  | ⟨0, _⟩ =>
    refine (stats0 _ _ _).trans ((xPred_real _ _ (tQ_at m c r hr b k) _ _ (h b k)).trans ?_)
    exact ((Ref.v205_x (a0 m c) b k).trans (Ref.v199_at (a0 m c) b k _ (hr b k) _ _ (h b k))).symm
  | ⟨1, _⟩ =>
    refine (stats1 _ _ _).trans ((yPred_real _ _ (tQ_at m c r hr b k) _ _ (h b k)).trans ?_)
    exact ((Ref.v205_y (a0 m c) b k).trans (Ref.v202_at (a0 m c) b k _ (hr b k) _ _ (h b k))).symm

include hr h in
/-- A plane's error is the reference's. -/
theorem err_at_plane : err (F := Ideal) (tX m c (pl b k)) (tY m c (pl b k)) (tQ m c (pl b k)) (ix2 (0 : Fin 1) (0 : Fin 1))
    = ReferenceIdeal.Read.val_main_v212 (F := Ideal) (a0 m c) (a1 m c) (ix2 b k) := by
  refine (err_real _ _ (tQ_at m c r hr b k) _ _ (h b k) _ _).trans ?_
  refine Eq.trans ?_ (Ref.v212_at (a0 m c) b k (r b k) (hr b k) (y b k) (x b k) (h b k) (a1 m c)).symm
  exact congrArg₂ _ (targets_eq m c b k 0) (targets_eq m c b k 1)

include hr h in
theorem err_eq : shapeCast S32x13 (shapeCast S416 (extractStridedSlice S416x1x1 ![0, 0, 2] (statsArr m c)
      slices_S416x1x128_S416x1x1_0_0_2) shapeCasts_S416x1x1_S416) shapeCasts_S416_S32x13
    = ReferenceIdeal.Read.val_main_v212 (F := Ideal) (a0 m c) (a1 m c) := by
  funext i
  obtain ⟨b, k, rfl⟩ : ∃ b k, i = ix2 b k := ⟨_, _, eq_ix2 i⟩
  rw [err_at]
  exact (stats2 _ _ _).trans (err_at_plane m c r hr b k y x h)

/-- The visible planes' count, in whichever lane. -/
theorem vis_total (l : Fin 128) : (total m c (ix2 (1 : Fin 4) l) : EReal)
    = ∑ b : Fin 32, ∑ k : Fin 13, (a1 m c (ix3 b k (2 : Fin 3)) : EReal) := by
  refine (total_at m c _).trans (Finset.sum_congr rfl fun b _ => Finset.sum_congr rfl fun k _ => ?_)
  exact (share1 _ _ _ _ _ _).trans (tV_at m c b k)

include hr h in
/-- The visible planes' errors. -/
theorem err_total (l : Fin 128) : (total m c (ix2 (2 : Fin 4) l) : EReal)
    = ∑ b : Fin 32, ∑ k : Fin 13, (ReferenceIdeal.Read.val_main_v212 (F := Ideal) (a0 m c) (a1 m c) (ix2 b k) : EReal)
        * a1 m c (ix3 b k (2 : Fin 3)) := by
  refine (total_at m c _).trans (Finset.sum_congr rfl fun b _ => Finset.sum_congr rfl fun k _ => ?_)
  refine (share2 _ _ _ _ _ _).trans ?_
  rw [err_at_plane m c r hr b k y x h, tV_at m c b k]

include hr h in
/-- The visible planes within the threshold. -/
theorem inl_total (l : Fin 128) : (total m c (ix2 (3 : Fin 4) l) : EReal)
    = ∑ b : Fin 32, ∑ k : Fin 13, (if (ReferenceIdeal.Read.val_main_v212 (F := Ideal) (a0 m c) (a1 m c) (ix2 b k) : EReal)
        ≤ (a2 m c (ix1 b) : EReal) * Ideal.ofBits .f32 0x3F000000#32 then (1 : EReal) else 0) * a1 m c (ix3 b k (2 : Fin 3)) := by
  refine (total_at m c _).trans (Finset.sum_congr rfl fun b _ => Finset.sum_congr rfl fun k _ => ?_)
  refine (share3 _ _ _ _ _ _).trans ?_
  rw [err_at_plane m c r hr b k y x h, tV_at m c b k, tT_at m c b k]

include hr h in
theorem mean_eq : shapeCast S_ (extractStridedSlice S1x1x1 ![0, 0, 1] (finArr m c) slices_S1x1x128_S1x1x1_0_0_1) shapeCasts_S1x1x1_S_
    = ReferenceIdeal.Read.val_main_v217 (F := Ideal) (a0 m c) (a1 m c) := by
  have e := err_total m c r hr y x h 1
  have f := vis_total m c 1
  have g := Ref.v217_at (a0 m c) (a1 m c)
  funext i
  refine (fin1_at _ i).trans (Eq.trans ?_ (g i).symm)
  rw [← e, ← f]
  exact fin_mean (total m c)

include hr h in
theorem pckh_eq : shapeCast S_ (extractStridedSlice S1x1x1 ![0, 0, 2] (finArr m c) slices_S1x1x128_S1x1x1_0_0_2) shapeCasts_S1x1x1_S_
    = ReferenceIdeal.Read.val_main_v228 (F := Ideal) (a0 m c) (a1 m c) (a2 m c) := by
  have e := inl_total m c r hr y x h 2
  have f := vis_total m c 2
  have g := Ref.v228_at (a0 m c) (a1 m c) (a2 m c)
  funext i
  refine (fin2_at _ i).trans (Eq.trans ?_ (g i).symm)
  rw [← e, ← f]
  exact fin_pckh (total m c)

end Joints

include hr eX eY hX hY in
theorem loss_eq : shapeCast S_ (extractStridedSlice S1x1x1 ![0, 0, 0] (finArr m c) slices_S1x1x128_S1x1x1_0_0_0) shapeCasts_S1x1x1_S_
    = ReferenceIdeal.Read.val_main_v234 (F := Ideal) (a0 m c) (a1 m c) := by
  funext i
  rw [fin0_at, Ref.v234_at (a0 m c) (a1 m c) i (fun b k u v => tap (Y b k) u.val * tap (X b k) v.val) r
    (Ref.v189_at (a1 m c) X Y hX hY eX eY) hr]
  refine (fin_loss _).trans (congrArg (fun z => Ideal.div z _) ?_)
  refine (total_at m c _).trans (Finset.sum_congr rfl fun b _ => Finset.sum_congr rfl fun k _ => ?_)
  refine (share0 _ _ _ _ _ _).trans ?_
  rw [tX_at m c X eX, tY_at m c Y eY]
  exact sqLoss_real _ _ _ _ (tQ_at m c r hr b k)

end Cert.Values
-- ==== Proof.Inputs.lean ====
module

public import proofs.«01_k».proof.Proof.Gauss
public import proofs.«01_k».proof.Defs
public import proofs.«01_k».proof.Proof.Gen.Pre_pre

/-! # What the precondition says of the arguments -/

@[expose] public section

noncomputable section

namespace Cert.Inputs

open Idealize.ShloMosaic Idealize.ShloMosaic.Tactic Idealize.SL.Sem
open Cert.Pre_pre Cert.Pre_pre.Gen Cert.Gauss

variable (x0 : FVec Ideal S32x13x256x256 .f32) (x1 : FVec Ideal S32x13x3 .f32) (x2 : FVec Ideal S32 .f32)

theorem and_one (a b : BitVec 1) (h : IntOp.andi a b = 1#1) : a = 1#1 ∧ b = 1#1 := by
  revert a b
  decide

theorem one_of (p : Prop) [Decidable p] (h : BitVec.ofBool (decide p) = 1#1) : p := by
  by_contra hp
  rw [decide_eq_false hp] at h
  exact absurd h (by decide)

/-- A column's greatest magnitude. -/
def most : FVec Ideal S32x13x256 .f32 :=
  Host.reduce FloatOps.maximumf (Host.absf x0) (constant (F := Ideal) S_ .f32 0xFF800000#32)
    Facts.reducesTo_S32x13x256x256_S32x13x256_d2 Facts.h_S_

/-- It is below the infinity. -/
def small (w : FVec Ideal S32x13x256 .f32) : IVec S32x13x1x256 1 :=
  cmpf .olt (broadcastInDim S32x13x1x256 ![0, 1, 3] Facts.bcast_S32x13x256_S32x13x1x256_0_1_3 w)
    (broadcastInDim S32x13x1x256 ![] Facts.bcast_S_S32x13x1x256 (constant (F := Ideal) S_ .f32 0x7F800000#32))

/-- A target's two coordinates. -/
def coords : FVec Ideal S32x13x2 .f32 := extractStridedSlice S32x13x2 ![0, 0, 0] x1 Facts.slices_S32x13x3_S32x13x2_0_0_0

/-- Both are non-negative. -/
def above : IVec S32x13 1 :=
  cmpf .oge (Host.reduce FloatOps.minimumf (coords x1) (constant (F := Ideal) S_ .f32 0x7F800000#32) Facts.reducesTo_S32x13x2_S32x13_d2 Facts.h_S_)
    (broadcastInDim S32x13 ![] Facts.bcast_S_S32x13 (constant (F := Ideal) S_ .f32 0x00000000#32))

/-- Both are below 255. -/
def below : IVec S32x13 1 :=
  cmpf .olt (Host.reduce FloatOps.maximumf (coords x1) (constant (F := Ideal) S_ .f32 0xFF800000#32) Facts.reducesTo_S32x13x2_S32x13_d2 Facts.h_S_)
    (broadcastInDim S32x13 ![] Facts.bcast_S_S32x13 (constant (F := Ideal) S_ .f32 0x437F0000#32))

theorem split_fn : ∃ once : IVec S32x13x1x256 1, fn (F := Ideal) x0 x1 x2
    = andi (andi once (small (most x0))) (broadcastInDim S32x13x1x256 ![0, 1, 2, 3] Facts.bcast_S32x13x1x1_S32x13x1x256_0_1_2_3
      (broadcastInDim S32x13x1x1 ![0, 1] Facts.bcast_S32x13_S32x13x1x1_0_1 (andi (above x1) (below x1)))) := ⟨_, rfl⟩

theorem parts (b : Fin 32) (k : Fin 13) (v : Fin 256) (h : fn (F := Ideal) x0 x1 x2 = fun _ => 1#1) :
    small (most x0) (ix4 b k (0 : Fin 1) v) = 1#1 ∧ above x1 (ix2 b k) = 1#1 ∧ below x1 (ix2 b k) = 1#1 := by
  obtain ⟨once, e⟩ := split_fn x0 x1 x2
  have h' := congrFun (e.symm.trans h) (ix4 b k (0 : Fin 1) v)
  revert h'
  clear e
  generalize small (most x0) = s
  generalize above x1 = p
  generalize below x1 = q
  intro h'
  pointwise at h'
  obtain ⟨h1, h2⟩ := and_one _ _ h'
  exact ⟨(and_one _ _ h1).2, (and_one _ _ h2).1, (and_one _ _ h2).2⟩

theorem small_at (w : FVec Ideal S32x13x256 .f32) (b : Fin 32) (k : Fin 13) (v : Fin 256) (h : small w (ix4 b k (0 : Fin 1) v) = 1#1) :
    (w (ix3 b k v) : EReal) < ⊤ := by
  revert h
  pointwise [small]
  rw [lit_top]
  exact one_of _

/-- A column whose greatest magnitude is finite has real entries. -/
theorem real_of_most (b : Fin 32) (k : Fin 13) (u v : Fin 256) (h : (most x0 (ix3 b k v) : EReal) < ⊤) :
    ∃ r : ℝ, x0 (ix4 b k u v) = ((r : ℝ) : EReal) := by
  classical
  unfold most at h
  rw [Host.reduce_eq_fold] at h
  have hm : ix4 b k u v ∈ Finset.univ.filter fun i => Facts.reducesTo_S32x13x256x256_S32x13x256_d2.drop i = ix3 b k v := by
    refine Finset.mem_filter.2 ⟨Finset.mem_univ _, ?_⟩
    funext a
    match a with
    | ⟨0, _⟩ => rfl
    | ⟨1, _⟩ => rfl
    | ⟨2, _⟩ => rfl
  have h' : (max (show EReal from x0 (ix4 b k u v)) (-(show EReal from x0 (ix4 b k u v)))) < ⊤ := (Finset.fold_max_lt _ |>.1 h).2 _ hm
  revert h'
  generalize hz : (show EReal from x0 (ix4 b k u v)) = z
  intro h'
  obtain ⟨h1, h2⟩ := max_lt_iff.1 h'
  induction z using EReal.rec with
  | bot => exact absurd h2 (by simp)
  | top => exact absurd h1 (by simp)
  | coe r => exact ⟨r, hz⟩

theorem above_at (b : Fin 32) (k : Fin 13) (h : above x1 (ix2 b k) = 1#1) :
    (0 : EReal) ≤ x1 (ix3 b k (0 : Fin 3)) ∧ (0 : EReal) ≤ x1 (ix3 b k (1 : Fin 3)) := by
  revert h
  pointwise [above, coords]
  intro h
  have h' := (Finset.le_fold_min _ |>.1 (one_of _ h)).2
  exact ⟨h' 0 (Finset.mem_univ _), h' 1 (Finset.mem_univ _)⟩

theorem below_at (b : Fin 32) (k : Fin 13) (h : below x1 (ix2 b k) = 1#1) :
    (x1 (ix3 b k (0 : Fin 3)) : EReal) < ((255 : ℝ) : EReal) ∧ (x1 (ix3 b k (1 : Fin 3)) : EReal) < ((255 : ℝ) : EReal) := by
  have e : Ideal.ofBits .f32 0x437F0000#32 = ((255 : ℝ) : EReal) := by
    simp [Ideal.ofBits, Ideal.ieee, -EReal.coe_mul, -EReal.coe_neg]; norm_num
  revert h
  pointwise [below, coords]
  rw [e]
  intro h
  have h' := (Finset.fold_max_lt _ |>.1 (one_of _ h)).2
  exact ⟨h' 0 (Finset.mem_univ _), h' 1 (Finset.mem_univ _)⟩

theorem between (z : EReal) (h0 : 0 ≤ z) (h1 : z < ((255 : ℝ) : EReal)) : ∃ X : ℝ, z = (X : EReal) ∧ 0 ≤ X ∧ X < 255 := by
  induction z using EReal.rec with
  | bot => exact absurd h0 (by simp)
  | top => exact absurd h1 (by simp)
  | coe X => exact ⟨X, rfl, EReal.coe_nonneg.1 h0, EReal.coe_lt_coe_iff.1 h1⟩

/-- What the precondition gives: real predictions, and targets in the image. -/
theorem reals (h : fn (F := Ideal) x0 x1 x2 = fun _ => 1#1) :
    ∃ (r : Fin 32 → Fin 13 → Fin 256 → Fin 256 → ℝ) (X Y : Fin 32 → Fin 13 → ℝ),
      (∀ b k u v, x0 (ix4 b k u v) = ((r b k u v : ℝ) : EReal))
      ∧ (∀ b k, x1 (ix3 b k (0 : Fin 3)) = ((X b k : ℝ) : EReal)) ∧ (∀ b k, x1 (ix3 b k (1 : Fin 3)) = ((Y b k : ℝ) : EReal))
      ∧ (∀ b k, 0 ≤ X b k ∧ X b k < 255) ∧ ∀ b k, 0 ≤ Y b k ∧ Y b k < 255 := by
  have hr b k u v := real_of_most x0 b k u v (small_at _ b k v (parts x0 x1 x2 b k v h).1)
  have hX b k := between _ (above_at x1 b k (parts x0 x1 x2 b k 0 h).2.1).1 (below_at x1 b k (parts x0 x1 x2 b k 0 h).2.2).1
  have hY b k := between _ (above_at x1 b k (parts x0 x1 x2 b k 0 h).2.1).2 (below_at x1 b k (parts x0 x1 x2 b k 0 h).2.2).2
  choose r hr using hr
  choose X hX using hX
  choose Y hY using hY
  exact ⟨r, X, Y, hr, fun b k => (hX b k).1, fun b k => (hY b k).1, fun b k => (hX b k).2, fun b k => (hY b k).2⟩

end Cert.Inputs
-- ==== Proof.Pair.lean ====
module

public import proofs.«01_k».proof.Defs
public import proofs.«01_k».proof.Proof.Values
public import proofs.«01_k».proof.Proof.Inputs
public import proofs.«01_k».proof.Proof.Gen.KernelIdeal.Frame

/-! # The pair of runs: from agreeing arguments, equal results -/

@[expose] public section

noncomputable section

namespace Cert.Proof

open Idealize.ShloMosaic Idealize.ShloMosaic.Tactic Idealize.SL.Sem
open Cert.Values

theorem algebraic : Cert.algebraic_KernelIdeal_ReferenceIdeal := by
  intro m g m' g' hpre hagree
  refine ⟨fun c => ReferenceIdeal.Read.val_main_v234 (F := Ideal) (a0 m c) (a1 m c),
    fun c => ReferenceIdeal.Read.val_main_v217 (F := Ideal) (a0 m c) (a1 m c),
    fun c => ReferenceIdeal.Read.val_main_v205 (F := Ideal) (a0 m c),
    fun c => ReferenceIdeal.Read.val_main_v189 (F := Ideal) (a1 m c),
    fun c => ReferenceIdeal.Read.val_main_v228 (F := Ideal) (a0 m c) (a1 m c) (a2 m c),
    fun c => ReferenceIdeal.Read.val_main_v212 (F := Ideal) (a0 m c) (a1 m c), ?_, ?_⟩
  · refine θ_run_mono (θ_run_and (Plane.run m g) (KernelIdeal.Gen.unchanged m g)) fun s hs c => ?_
    obtain ⟨k0, k1, k2, k3, k4, k5⟩ := hs.1 c
    obtain ⟨r, X, Y, hr, eX, eY, hX, hY⟩ := Inputs.reals (a0 m c) (a1 m c) (a2 m c) (hpre c)
    choose y x h using fun b k => Plane.exists_first (r b k)
    exact ⟨k0.trans (loss_eq m c r X Y hr eX eY hX hY), k1.trans (mean_eq m c r hr y x h), k2.trans (joints_eq m c r hr y x h),
      k3.trans (heat_eq m c X Y eX eY hX hY), k4.trans (pckh_eq m c r hr y x h), k5.trans (err_eq m c r hr y x h), hs.2 c⟩
  · refine θ_run_mono (ReferenceIdeal.Value.run (F := Ideal) m' g') fun s hs c => ?_
    obtain ⟨k0, k1, k2, k3, k4, k5, ka⟩ := hs c
    have e0 : StableHlo.launchContents m' c (Proc.devRef .tc ReferenceIdeal.main_arg0) = a0 m c := (hagree c).1
    have e1 : StableHlo.launchContents m' c (Proc.devRef .tc ReferenceIdeal.main_arg1) = a1 m c := (hagree c).2.1
    have e2 : StableHlo.launchContents m' c (Proc.devRef .tc ReferenceIdeal.main_arg2) = a2 m c := (hagree c).2.2
    have f0 := ReferenceIdeal.Read.val_main_v234_eq (F := Ideal) (StableHlo.launchContents m' c)
    have f1 := ReferenceIdeal.Read.val_main_v217_eq (F := Ideal) (StableHlo.launchContents m' c)
    have f2 := ReferenceIdeal.Read.val_main_v205_eq (F := Ideal) (StableHlo.launchContents m' c)
    have f3 := ReferenceIdeal.Read.val_main_v189_eq (F := Ideal) (StableHlo.launchContents m' c)
    have f4 := ReferenceIdeal.Read.val_main_v228_eq (F := Ideal) (StableHlo.launchContents m' c)
    have f5 := ReferenceIdeal.Read.val_main_v212_eq (F := Ideal) (StableHlo.launchContents m' c)
    exact ⟨(k0.trans f0).trans (congrArg₂ _ e0 e1), (k1.trans f1).trans (congrArg₂ _ e0 e1), (k2.trans f2).trans (congrArg _ e0),
      (k3.trans f3).trans (congrArg _ e1), (k4.trans f4).trans (by rw [e0, e1, e2]), (k5.trans f5).trans (congrArg₂ _ e0 e1), ka⟩

end Cert.Proof
-- ==== Proof.lean ====
module

public import proofs.«01_k».proof.Proof.Frames
public import proofs.«01_k».proof.Proof.Pair

@[expose] public section

/-- The certificate: every claim of `Defs.lean`, behind the programs' stated side conditions. -/
theorem Cert.Proof.claim : Cert.Claim :=
  ⟨Cert.Kernel.Gen.facts, Cert.KernelIdeal.Gen.facts, Cert.ReferenceIdeal.Gen.facts, Cert.Pre_pre.Gen.facts,
    Cert.Proof.frame_kernel, Cert.Proof.frame_kernel_pre, Cert.Proof.frame_kernelIdeal, Cert.Proof.frame_referenceIdeal,
    Cert.Proof.frame_referenceIdeal_pre, trivial, Cert.Proof.algebraic⟩
